-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sums_in_range [hPre_sums_in_range : Cert.Pre_sums_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_sums_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_sums_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_sums_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_sums_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sums_in_range [hPre_sums_in_range : Cert.Pre_sums_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sums_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_sums_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_sums_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_sums_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_sums_in_range [hKernelIdeal : Cert.KernelIdeal.Facts] [hPre_sums_in_range : Cert.Pre_sums_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sums_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sums_in_range [hReferenceIdeal : Cert.ReferenceIdeal.Facts] [hPre_sums_in_range : Cert.Pre_sums_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sums_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_sums_in_range [hKernelIdeal : Cert.KernelIdeal.Facts] [hReferenceIdeal : Cert.ReferenceIdeal.Facts] [hPre_sums_in_range : Cert.Pre_sums_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sums_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sums_in_range : Cert.Pre_sums_in_range.Facts),
    quiescent_Kernel (hKernel := hKernel)
    ∧ quiescent_KernelIdeal (hKernelIdeal := hKernelIdeal)
    ∧ quiescent_KernelIdeal_pre_sums_in_range (hKernelIdeal := hKernelIdeal) (hPre_sums_in_range := hPre_sums_in_range)
    ∧ quiescent_ReferenceIdeal (hReferenceIdeal := hReferenceIdeal)
    ∧ quiescent_ReferenceIdeal_pre_sums_in_range (hReferenceIdeal := hReferenceIdeal) (hPre_sums_in_range := hPre_sums_in_range)
    ∧ preserves_Kernel_KernelIdeal
    ∧ algebraic_KernelIdeal_ReferenceIdeal_pre_sums_in_range (hKernelIdeal := hKernelIdeal) (hReferenceIdeal := hReferenceIdeal) (hPre_sums_in_range := hPre_sums_in_range)
-- ==== Pre_sums_in_range.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x128 : Shape := ⟨2, ![1, 128]⟩
abbrev S10000x64 : Shape := ⟨2, ![10000, 64]⟩

class Facts : Prop where
  reducesTo_S10000x128_S_d0_1 : S10000x128.ReducesTo [0, 1] S_
  h_S_ : 0 < S_.numel
  bcast_S_S10000x128 : S_.BroadcastsInDim S10000x128 (![] : Fin 0 → Fin S10000x128.rank)
  bcast_S_S10000x10000 : S_.BroadcastsInDim S10000x10000 (![] : Fin 0 → Fin S10000x10000.rank)
  reducesTo_S10000x128_S128_d0 : S10000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x64_S_d0_1 : S10000x64.ReducesTo [0, 1] S_
  bcast_S_S10000x64 : S_.BroadcastsInDim S10000x64 (![] : Fin 0 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def fn_round {F : FTy → Type} [FloatOps F] (arg0 : FVec F S10000x128 .f32) : FVec F S10000x128 .f32 :=
  let v0 : FVec F S10000x128 .f32 := Host.roundeven arg0
  v0

def fn_round_0 {F : FTy → Type} [FloatOps F] (arg0 : FVec F S10000x10000 .f32) : FVec F S10000x10000 .f32 :=
  let v0 : FVec F S10000x10000 .f32 := Host.roundeven arg0
  v0

def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_relu {F : FTy → Type} [FloatOps F] (arg0 : FVec F S10000x128 .f32) : FVec F S10000x128 .f32 :=
  let cst : FVec F S_ .f32 := constant S_ .f32 0x00000000#32
  let v0 : FVec F S10000x128 .f32 := broadcastInDim S10000x128 ![] bcast_S_S10000x128 cst
  let v1 : FVec F S10000x128 .f32 := maximumf arg0 v0
  v1

def fn_round_1 {F : FTy → Type} [FloatOps F] (arg0 : FVec F S10000x64 .f32) : FVec F S10000x64 .f32 :=
  let v0 : FVec F S10000x64 .f32 := Host.roundeven arg0
  v0

def fn_part5 {F : FTy → Type} [FloatOps F] (main_v80 : FVec F S10000x64 .f32) (main_v82 : FVec F S10000x64 .f32) (main_v84 : IVec S10000x128 1) (main_v86 : IVec S10000x128 1) (main_cst_31 : FVec F S_ .f32) : IVec S10000x128 1 × IVec S10000x128 1 × IVec S10000x64 1 × IVec S10000x64 1 :=
  let main_v87 : FVec F S10000x64 .f32 := broadcastInDim S10000x64 ![] bcast_S_S10000x64 main_cst_31
  let main_v88 : IVec S10000x64 1 := cmpf .ole main_v80 main_v87
  let main_cst_32 : FVec F S_ .f32 := constant S_ .f32 0x4C800000#32
  let main_v89 : FVec F S10000x64 .f32 := broadcastInDim S10000x64 ![] bcast_S_S10000x64 main_cst_32
  let main_v90 : IVec S10000x64 1 := cmpf .ole main_v82 main_v89
  (main_v84, main_v86, main_v88, main_v90)

def fn_part4 {F : FTy → Type} [FloatOps F] (main_arg1 : FVec F S10000x10000 .f32) (main_v53 : FVec F S10000x128 .f32) (main_v55 : FVec F S10000x128 .f32) (main_v63 : FVec F S10000x64 .f32) (main_v68 : FVec F S10000x64 .f32) (main_v69 : FVec F S10000x64 .f32) : IVec S10000x128 1 × IVec S10000x128 1 × IVec S10000x64 1 × IVec S10000x64 1 :=
  let main_v70 : FVec F S10000x64 .f32 := mulf main_v68 main_v69
  let main_v71 : FVec F S10000x64 .f32 := subf main_v63 main_v70
  let main_cst_25 : FVec F S_ .f32 := constant S_ .f32 0x437F0000#32
  let main_v72 : FVec F S10000x10000 .f32 := broadcastInDim S10000x10000 ![] bcast_S_S10000x10000 main_cst_25
  let main_v73 : FVec F S10000x10000 .f32 := mulf main_arg1 main_v72
  let main_cst_26 : FVec F S_ .f32 := constant S_ .f32 0x43000000#32
  let main_v74 : FVec F S10000x10000 .f32 := broadcastInDim S10000x10000 ![] bcast_S_S10000x10000 main_cst_26
  let main_v75 : FVec F S10000x10000 .f32 := subf main_v73 main_v74
  let main_v76 : FVec F S10000x10000 .f32 := fn_round_0 (F := F) main_v75
  let main_cst_27 : FVec F S_ .f32 := constant S_ .f32 0xC3000000#32
  let main_cst_28 : FVec F S_ .f32 := constant S_ .f32 0x42FE0000#32
  let main_v77 : FVec F S10000x10000 .f32 := fn_clip (F := F) main_v76 main_cst_27 main_cst_28
  let main_v78 : FVec F S10000x10000 .f32 := Host.absf main_v77
  let main_v79 : FVec F S10000x64 .f32 := Host.absf main_v68
  let main_v80 : FVec F S10000x64 .f32 := (fun l r => Host.dotGeneral dot_S10000x10000_S10000x64_S10000x64_1_0_0_1_n_n none l r) main_v78 main_v79
  let main_v81 : FVec F S10000x64 .f32 := Host.absf main_v71
  let main_v82 : FVec F S10000x64 .f32 := (fun l r => Host.dotGeneral dot_S10000x10000_S10000x64_S10000x64_1_0_0_1_n_n none l r) main_v78 main_v81
  let main_cst_29 : FVec F S_ .f32 := constant S_ .f32 0x4C800000#32
  let main_v83 : FVec F S10000x128 .f32 := broadcastInDim S10000x128 ![] bcast_S_S10000x128 main_cst_29
  let main_v84 : IVec S10000x128 1 := cmpf .ole main_v53 main_v83
  let main_cst_30 : FVec F S_ .f32 := constant S_ .f32 0x4C800000#32
  let main_v85 : FVec F S10000x128 .f32 := broadcastInDim S10000x128 ![] bcast_S_S10000x128 main_cst_30
  let main_v86 : IVec S10000x128 1 := cmpf .ole main_v55 main_v85
  let main_cst_31 : FVec F S_ .f32 := constant S_ .f32 0x4C800000#32
  fn_part5 (F := F) main_v80 main_v82 main_v84 main_v86 main_cst_31

def fn_part3 {F : FTy → Type} [FloatOps F] (main_arg1 : FVec F S10000x10000 .f32) (main_arg4 : FVec F S128x64 .f32) (main_v28 : FVec F S10000x128 .f32) (main_v41 : FVec F S10000x128 .f32) (main_v44 : FVec F S10000x128 .f32) (main_v51 : FVec F S10000x10000 .f32) : IVec S10000x128 1 × IVec S10000x128 1 × IVec S10000x64 1 × IVec S10000x64 1 :=
  let main_v52 : FVec F S10000x128 .f32 := Host.absf main_v41
  let main_v53 : FVec F S10000x128 .f32 := (fun l r => Host.dotGeneral dot_S10000x10000_S10000x128_S10000x128_1_0_0_1_n_n none l r) main_v51 main_v52
  let main_v54 : FVec F S10000x128 .f32 := Host.absf main_v44
  let main_v55 : FVec F S10000x128 .f32 := (fun l r => Host.dotGeneral dot_S10000x10000_S10000x128_S10000x128_1_0_0_1_n_n none l r) main_v51 main_v54
  let main_v56 : FVec F S10000x64 .f32 := (fun l r => Host.dotGeneral dot_S10000x128_S128x64_S10000x64_1_0_0_1_n_n none l r) main_v28 main_arg4
  let main_v57 : FVec F S10000x64 .f32 := Host.absf main_v56
  let main_cst_19 : FVec F S_ .f32 := constant S_ .f32 0xFF800000#32
  let main_v58 : FVec F S_ .f32 := (fun x v => Host.reduce FloatOps.maximumf x v reducesTo_S10000x64_S_d0_1 h_S_) main_v57 main_cst_19
  let main_cst_20 : FVec F S_ .f32 := constant S_ .f32 0x3803126F#32
  let main_v59 : FVec F S_ .f32 := mulf main_v58 main_cst_20
  let main_cst_21 : FVec F S_ .f32 := constant S_ .f32 0x3F800000#32
  let main_v60 : FVec F S_ .f32 := Host.divf main_cst_21 main_v59
  let main_v61 : FVec F S10000x64 .f32 := broadcastInDim S10000x64 ![] bcast_S_S10000x64 main_v60
  let main_v62 : FVec F S10000x64 .f32 := mulf main_v56 main_v61
  let main_v63 : FVec F S10000x64 .f32 := fn_round_1 (F := F) main_v62
  let main_cst_22 : FVec F S_ .f32 := constant S_ .f32 0x43000000#32
  let main_v64 : FVec F S10000x64 .f32 := broadcastInDim S10000x64 ![] bcast_S_S10000x64 main_cst_22
  let main_v65 : FVec F S10000x64 .f32 := addf main_v63 main_v64
  let main_cst_23 : FVec F S_ .f32 := constant S_ .f32 0x3B800000#32
  let main_v66 : FVec F S10000x64 .f32 := broadcastInDim S10000x64 ![] bcast_S_S10000x64 main_cst_23
  let main_v67 : FVec F S10000x64 .f32 := mulf main_v65 main_v66
  let main_v68 : FVec F S10000x64 .f32 := Host.floor main_v67
  let main_cst_24 : FVec F S_ .f32 := constant S_ .f32 0x43800000#32
  let main_v69 : FVec F S10000x64 .f32 := broadcastInDim S10000x64 ![] bcast_S_S10000x64 main_cst_24
  fn_part4 (F := F) main_arg1 main_v53 main_v55 main_v63 main_v68 main_v69

def fn_part2 {F : FTy → Type} [FloatOps F] (main_arg1 : FVec F S10000x10000 .f32) (main_arg4 : FVec F S128x64 .f32) (main_v28 : FVec F S10000x128 .f32) (main_v29 : FVec F S10000x128 .f32) (main_v34 : FVec F S10000x128 .f32) : IVec S10000x128 1 × IVec S10000x128 1 × IVec S10000x64 1 × IVec S10000x64 1 :=
  let main_v35 : FVec F S10000x128 .f32 := mulf main_v29 main_v34
  let main_v36 : FVec F S10000x128 .f32 := fn_round (F := F) main_v35
  let main_cst_12 : FVec F S_ .f32 := constant S_ .f32 0x43000000#32
  let main_v37 : FVec F S10000x128 .f32 := broadcastInDim S10000x128 ![] bcast_S_S10000x128 main_cst_12
  let main_v38 : FVec F S10000x128 .f32 := addf main_v36 main_v37
  let main_cst_13 : FVec F S_ .f32 := constant S_ .f32 0x3B800000#32
  let main_v39 : FVec F S10000x128 .f32 := broadcastInDim S10000x128 ![] bcast_S_S10000x128 main_cst_13
  let main_v40 : FVec F S10000x128 .f32 := mulf main_v38 main_v39
  let main_v41 : FVec F S10000x128 .f32 := Host.floor main_v40
  let main_cst_14 : FVec F S_ .f32 := constant S_ .f32 0x43800000#32
  let main_v42 : FVec F S10000x128 .f32 := broadcastInDim S10000x128 ![] bcast_S_S10000x128 main_cst_14
  let main_v43 : FVec F S10000x128 .f32 := mulf main_v41 main_v42
  let main_v44 : FVec F S10000x128 .f32 := subf main_v36 main_v43
  let main_cst_15 : FVec F S_ .f32 := constant S_ .f32 0x437F0000#32
  let main_v45 : FVec F S10000x10000 .f32 := broadcastInDim S10000x10000 ![] bcast_S_S10000x10000 main_cst_15
  let main_v46 : FVec F S10000x10000 .f32 := mulf main_arg1 main_v45
  let main_cst_16 : FVec F S_ .f32 := constant S_ .f32 0x43000000#32
  let main_v47 : FVec F S10000x10000 .f32 := broadcastInDim S10000x10000 ![] bcast_S_S10000x10000 main_cst_16
  let main_v48 : FVec F S10000x10000 .f32 := subf main_v46 main_v47
  let main_v49 : FVec F S10000x10000 .f32 := fn_round_0 (F := F) main_v48
  let main_cst_17 : FVec F S_ .f32 := constant S_ .f32 0xC3000000#32
  let main_cst_18 : FVec F S_ .f32 := constant S_ .f32 0x42FE0000#32
  let main_v50 : FVec F S10000x10000 .f32 := fn_clip (F := F) main_v49 main_cst_17 main_cst_18
  let main_v51 : FVec F S10000x10000 .f32 := Host.absf main_v50
  fn_part3 (F := F) main_arg1 main_arg4 main_v28 main_v41 main_v44 main_v51

def fn_part1 {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_v0 : FVec F S10000x128 .f32) (main_v3 : FVec F S_ .f32) (main_v7 : FVec F S10000x128 .f32) (main_v15 : FVec F S10000x10000 .f32) : IVec S10000x128 1 × IVec S10000x128 1 × IVec S10000x64 1 × IVec S10000x64 1 :=
  let main_v16 : FVec F S10000x128 .f32 := broadcastInDim S10000x128 ![] bcast_S_S10000x128 main_v3
  let main_v17 : FVec F S10000x128 .f32 := mulf main_v7 main_v16
  let main_v18 : FVec F S10000x128 .f32 := (fun l r => Host.dotGeneral dot_S10000x10000_S10000x128_S10000x128_1_0_0_1_n_n none l r) main_v15 main_v17
  let main_cst_7 : FVec F S_ .f32 := constant S_ .f32 0x00000000#32
  let main_v19 : FVec F S128 .f32 := (fun x v => Host.reduceAdd x v reducesTo_S10000x128_S128_d0 h_S_) main_v0 main_cst_7
  let main_cst_8 : FVec F S_ .f32 := constant S_ .f32 0x3F008081#32
  let main_v20 : FVec F S128 .f32 := broadcastInDim S128 ![] bcast_S_S128 main_cst_8
  let main_v21 : FVec F S128 .f32 := mulf main_v20 main_v19
  let main_v22 : FVec F S1x128 .f32 := broadcastInDim S1x128 ![1] bcast_S128_S1x128_1 main_v21
  let main_v23 : FVec F S10000x128 .f32 := broadcastInDim S10000x128 ![0, 1] bcast_S1x128_S10000x128_0_1 main_v22
  let main_v24 : FVec F S10000x128 .f32 := addf main_v18 main_v23
  let main_v25 : FVec F S1x128 .f32 := broadcastInDim S1x128 ![1] bcast_S128_S1x128_1 main_arg3
  let main_v26 : FVec F S10000x128 .f32 := broadcastInDim S10000x128 ![0, 1] bcast_S1x128_S10000x128_0_1 main_v25
  let main_v27 : FVec F S10000x128 .f32 := addf main_v24 main_v26
  let main_v28 : FVec F S10000x128 .f32 := fn_relu (F := F) main_v27
  let main_v29 : FVec F S10000x128 .f32 := (fun l r => Host.dotGeneral dot_S10000x128_S128x128_S10000x128_1_0_0_1_n_n none l r) main_arg0 main_arg2
  let main_v30 : FVec F S10000x128 .f32 := Host.absf main_v29
  let main_cst_9 : FVec F S_ .f32 := constant S_ .f32 0xFF800000#32
  let main_v31 : FVec F S_ .f32 := (fun x v => Host.reduce FloatOps.maximumf x v reducesTo_S10000x128_S_d0_1 h_S_) main_v30 main_cst_9
  let main_cst_10 : FVec F S_ .f32 := constant S_ .f32 0x3803126F#32
  let main_v32 : FVec F S_ .f32 := mulf main_v31 main_cst_10
  let main_cst_11 : FVec F S_ .f32 := constant S_ .f32 0x3F800000#32
  let main_v33 : FVec F S_ .f32 := Host.divf main_cst_11 main_v32
  let main_v34 : FVec F S10000x128 .f32 := broadcastInDim S10000x128 ![] bcast_S_S10000x128 main_v33
  fn_part2 (F := F) main_arg1 main_arg4 main_v28 main_v29 main_v34

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) : IVec S10000x128 1 × IVec S10000x128 1 × IVec S10000x64 1 × IVec S10000x64 1 :=
  let main_v0 : FVec F S10000x128 .f32 := (fun l r => Host.dotGeneral dot_S10000x128_S128x128_S10000x128_1_0_0_1_n_n none l r) main_arg0 main_arg2
  let main_v1 : FVec F S10000x128 .f32 := Host.absf main_v0
  let main_cst : FVec F S_ .f32 := constant S_ .f32 0xFF800000#32
  let main_v2 : FVec F S_ .f32 := (fun x v => Host.reduce FloatOps.maximumf x v reducesTo_S10000x128_S_d0_1 h_S_) main_v1 main_cst
  let main_cst_0 : FVec F S_ .f32 := constant S_ .f32 0x3803126F#32
  let main_v3 : FVec F S_ .f32 := mulf main_v2 main_cst_0
  let main_cst_1 : FVec F S_ .f32 := constant S_ .f32 0x3F800000#32
  let main_v4 : FVec F S_ .f32 := Host.divf main_cst_1 main_v3
  let main_v5 : FVec F S10000x128 .f32 := broadcastInDim S10000x128 ![] bcast_S_S10000x128 main_v4
  let main_v6 : FVec F S10000x128 .f32 := mulf main_v0 main_v5
  let main_v7 : FVec F S10000x128 .f32 := fn_round (F := F) main_v6
  let main_cst_2 : FVec F S_ .f32 := constant S_ .f32 0x437F0000#32
  let main_v8 : FVec F S10000x10000 .f32 := broadcastInDim S10000x10000 ![] bcast_S_S10000x10000 main_cst_2
  let main_v9 : FVec F S10000x10000 .f32 := mulf main_arg1 main_v8
  let main_cst_3 : FVec F S_ .f32 := constant S_ .f32 0x43000000#32
  let main_v10 : FVec F S10000x10000 .f32 := broadcastInDim S10000x10000 ![] bcast_S_S10000x10000 main_cst_3
  let main_v11 : FVec F S10000x10000 .f32 := subf main_v9 main_v10
  let main_v12 : FVec F S10000x10000 .f32 := fn_round_0 (F := F) main_v11
  let main_cst_4 : FVec F S_ .f32 := constant S_ .f32 0xC3000000#32
  let main_cst_5 : FVec F S_ .f32 := constant S_ .f32 0x42FE0000#32
  let main_v13 : FVec F S10000x10000 .f32 := fn_clip (F := F) main_v12 main_cst_4 main_cst_5
  let main_cst_6 : FVec F S_ .f32 := constant S_ .f32 0x437F0000#32
  let main_v14 : FVec F S10000x10000 .f32 := broadcastInDim S10000x10000 ![] bcast_S_S10000x10000 main_cst_6
  let main_v15 : FVec F S10000x10000 .f32 := Host.divf main_v13 main_v14
  fn_part1 (F := F) main_arg0 main_arg1 main_arg2 main_arg3 main_arg4 main_v0 main_v3 main_v7 main_v15
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S1x1 : Shape := ⟨2, ![1, 1]⟩
abbrev S1x10000x128 : Shape := ⟨3, ![1, 10000, 128]⟩
abbrev S1 : Shape := ⟨1, ![1]⟩
abbrev S1x1x1 : Shape := ⟨3, ![1, 1, 1]⟩
abbrev S25x400x10000 : Shape := ⟨3, ![25, 400, 10000]⟩
abbrev S400x10000 : Shape := ⟨2, ![400, 10000]⟩
abbrev S1x400x10000 : Shape := ⟨3, ![1, 400, 10000]⟩
abbrev S400x128 : Shape := ⟨2, ![400, 128]⟩
abbrev S1x64 : Shape := ⟨2, ![1, 64]⟩
abbrev S10000x64 : Shape := ⟨2, ![10000, 64]⟩
abbrev S1x10000x64 : Shape := ⟨3, ![1, 10000, 64]⟩
abbrev S400x64 : Shape := ⟨2, ![400, 64]⟩

abbrev nBuf : Space → Nat
  | .hbm => 19
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x128, .f32⟩
  | .hbm, ⟨7, _⟩ => ⟨S10000x128, .i8⟩
  | .hbm, ⟨8, _⟩ => ⟨S10000x128, .i8⟩
  | .hbm, ⟨9, _⟩ => ⟨S1x128, .f32⟩
  | .hbm, ⟨10, _⟩ => ⟨S1x1, .f32⟩
  | .hbm, ⟨11, _⟩ => ⟨S25x400x10000, .i8⟩
  | .hbm, ⟨12, _⟩ => ⟨S10000x128, .f32⟩
  | .hbm, ⟨13, _⟩ => ⟨S1x64, .f32⟩
  | .hbm, ⟨14, _⟩ => ⟨S10000x64, .i8⟩
  | .hbm, ⟨15, _⟩ => ⟨S10000x64, .i8⟩
  | .hbm, ⟨16, _⟩ => ⟨S1x64, .f32⟩
  | .hbm, ⟨17, _⟩ => ⟨S1x1, .f32⟩
  | .hbm, ⟨18, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S10000x128, .i8⟩
  | .local _ .vmem, ⟨4, _⟩ => ⟨S10000x128, .i8⟩
  | .local _ .vmem, ⟨5, _⟩ => ⟨S1x128, .f32⟩
  | .local _ .vmem, ⟨6, _⟩ => ⟨S1x1, .f32⟩
  | .local _ .vmem, ⟨7, _⟩ => ⟨S400x10000, .f32⟩
  | .local _ .vmem, ⟨8, _⟩ => ⟨S400x10000, .f32⟩
  | .local _ .vmem, ⟨9, _⟩ => ⟨S10000x128, .i8⟩
  | .local _ .vmem, ⟨10, _⟩ => ⟨S10000x128, .i8⟩
  | .local _ .vmem, ⟨11, _⟩ => ⟨S1x128, .f32⟩
  | .local _ .vmem, ⟨12, _⟩ => ⟨S1x1, .f32⟩
  | .local _ .vmem, ⟨13, _⟩ => ⟨S1x400x10000, .i8⟩
  | .local _ .vmem, ⟨14, _⟩ => ⟨S1x400x10000, .i8⟩
  | .local _ .vmem, ⟨15, _⟩ => ⟨S400x128, .f32⟩
  | .local _ .vmem, ⟨16, _⟩ => ⟨S400x128, .f32⟩
  | .local _ .vmem, ⟨17, _⟩ => ⟨S10000x128, .f32⟩
  | .local _ .vmem, ⟨18, _⟩ => ⟨S128x64, .f32⟩
  | .local _ .vmem, ⟨19, _⟩ => ⟨S1x64, .f32⟩
  | .local _ .vmem, ⟨20, _⟩ => ⟨S10000x64, .i8⟩
  | .local _ .vmem, ⟨21, _⟩ => ⟨S10000x64, .i8⟩
  | .local _ .vmem, ⟨22, _⟩ => ⟨S1x64, .f32⟩
  | .local _ .vmem, ⟨23, _⟩ => ⟨S1x1, .f32⟩
  | .local _ .vmem, ⟨24, _⟩ => ⟨S1x400x10000, .i8⟩
  | .local _ .vmem, ⟨25, _⟩ => ⟨S1x400x10000, .i8⟩
  | .local _ .vmem, ⟨26, _⟩ => ⟨S10000x64, .i8⟩
  | .local _ .vmem, ⟨27, _⟩ => ⟨S10000x64, .i8⟩
  | .local _ .vmem, ⟨28, _⟩ => ⟨S1x64, .f32⟩
  | .local _ .vmem, ⟨29, _⟩ => ⟨S1x1, .f32⟩
  | .local _ .vmem, ⟨30, _⟩ => ⟨S400x64, .f32⟩
  | .local _ .vmem, ⟨31, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v5e

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x128 .i8 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x400x10000 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := .none

abbrev stage2_0 : Fin 1 → Memref sig .tc .vmem S10000x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S10000x64 .i8 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S10000x64 .i8 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev grid3 : Pipeline.Grid := ⟨1, ![25], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1x400x10000 .i8 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .i8 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10000x64 .i8 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S400x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1x128 : Shape := ⟨2, ![1, 128]⟩
abbrev S10000x64 : Shape := ⟨2, ![10000, 64]⟩
abbrev S1x64 : Shape := ⟨2, ![1, 64]⟩

abbrev nBuf : Space → Nat
  | .hbm => 95
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000x128, .f32⟩
  | .hbm, ⟨7, _⟩ => ⟨S10000x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x10000, .f32⟩
  | .hbm, ⟨19, _⟩ => ⟨S10000x10000, .f32⟩
  | .hbm, ⟨20, _⟩ => ⟨S_, .f32⟩
  | .hbm, ⟨21, _⟩ => ⟨S10000x10000, .f32⟩
  | .hbm, ⟨22, _⟩ => ⟨S10000x10000, .f32⟩
  | .hbm, ⟨23, _⟩ => ⟨S10000x10000, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S10000x10000, .f32⟩
  | .hbm, ⟨28, _⟩ => ⟨S10000x10000, .f32⟩
  | .hbm, ⟨29, _⟩ => ⟨S_, .f32⟩
  | .hbm, ⟨30, _⟩ => ⟨S10000x10000, .f32⟩
  | .hbm, ⟨31, _⟩ => ⟨S10000x10000, .f32⟩
  | .hbm, ⟨32, _⟩ => ⟨S_, .f32⟩
  | .hbm, ⟨33, _⟩ => ⟨S10000x10000, .f32⟩
  | .hbm, ⟨34, _⟩ => ⟨S10000x10000, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S1x128, .f32⟩
  | .hbm, ⟨47, _⟩ => ⟨S10000x128, .f32⟩
  | .hbm, ⟨48, _⟩ => ⟨S10000x128, .f32⟩
  | .hbm, ⟨49, _⟩ => ⟨S_, .f32⟩
  | .hbm, ⟨50, _⟩ => ⟨S10000x128, .f32⟩
  | .hbm, ⟨51, _⟩ => ⟨S10000x128, .f32⟩
  | .hbm, ⟨52, _⟩ => ⟨S10000x64, .f32⟩
  | .hbm, ⟨53, _⟩ => ⟨S10000x64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S10000x64, .f32⟩
  | .hbm, ⟨61, _⟩ => ⟨S10000x64, .f32⟩
  | .hbm, ⟨62, _⟩ => ⟨S10000x64, .f32⟩
  | .hbm, ⟨63, _⟩ => ⟨S_, .f32⟩
  | .hbm, ⟨64, _⟩ => ⟨S10000x10000, .f32⟩
  | .hbm, ⟨65, _⟩ => ⟨S10000x10000, .f32⟩
  | .hbm, ⟨66, _⟩ => ⟨S_, .f32⟩
  | .hbm, ⟨67, _⟩ => ⟨S10000x10000, .f32⟩
  | .hbm, ⟨68, _⟩ => ⟨S10000x10000, .f32⟩
  | .hbm, ⟨69, _⟩ => ⟨S10000x10000, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S10000x10000, .f32⟩
  | .hbm, ⟨74, _⟩ => ⟨S10000x10000, .f32⟩
  | .hbm, ⟨75, _⟩ => ⟨S_, .f32⟩
  | .hbm, ⟨76, _⟩ => ⟨S10000x10000, .f32⟩
  | .hbm, ⟨77, _⟩ => ⟨S10000x10000, .f32⟩
  | .hbm, ⟨78, _⟩ => ⟨S_, .f32⟩
  | .hbm, ⟨79, _⟩ => ⟨S10000x10000, .f32⟩
  | .hbm, ⟨80, _⟩ => ⟨S10000x10000, .f32⟩
  | .hbm, ⟨81, _⟩ => ⟨S10000x64, .f32⟩
  | .hbm, ⟨82, _⟩ => ⟨S10000x64, .f32⟩
  | .hbm, ⟨83, _⟩ => ⟨S10000x64, .f32⟩
  | .hbm, ⟨84, _⟩ => ⟨S_, .f32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S1x64, .f32⟩
  | .hbm, ⟨90, _⟩ => ⟨S10000x64, .f32⟩
  | .hbm, ⟨91, _⟩ => ⟨S10000x64, .f32⟩
  | .hbm, ⟨92, _⟩ => ⟨S1x64, .f32⟩
  | .hbm, ⟨93, _⟩ => ⟨S10000x64, .f32⟩
  | .hbm, ⟨94, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_cst_5 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v13 : Ref sig .tc := ⟨.hbm, 31, rfl⟩
abbrev main_cst_6 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_cst_8 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call3_cst : Ref sig .tc := ⟨.hbm, 49, rfl⟩
abbrev main_call3_v0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_9 : Ref sig .tc := ⟨.hbm, 54, rfl⟩
abbrev main_v31 : Ref sig .tc := ⟨.hbm, 55, rfl⟩
abbrev main_cst_10 : Ref sig .tc := ⟨.hbm, 56, rfl⟩
abbrev main_v32 : Ref sig .tc := ⟨.hbm, 57, rfl⟩
abbrev main_cst_11 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_12 : Ref sig .tc := ⟨.hbm, 63, rfl⟩
abbrev main_v37 : Ref sig .tc := ⟨.hbm, 64, rfl⟩
abbrev main_v38 : Ref sig .tc := ⟨.hbm, 65, rfl⟩
abbrev main_cst_13 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_14 : Ref sig .tc := ⟨.hbm, 70, rfl⟩
abbrev main_cst_15 : Ref sig .tc := ⟨.hbm, 71, rfl⟩
abbrev main_call6_v0 : Ref sig .tc := ⟨.hbm, 72, rfl⟩
abbrev main_call6_v1 : Ref sig .tc := ⟨.hbm, 73, rfl⟩
abbrev main_call6_v2 : Ref sig .tc := ⟨.hbm, 74, rfl⟩
abbrev main_call6_v3 : Ref sig .tc := ⟨.hbm, 75, rfl⟩
abbrev main_call6_v4 : Ref sig .tc := ⟨.hbm, 76, rfl⟩
abbrev main_v42 : Ref sig .tc := ⟨.hbm, 77, rfl⟩
abbrev main_cst_16 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_17 : Ref sig .tc := ⟨.hbm, 84, rfl⟩
abbrev main_v48 : Ref sig .tc := ⟨.hbm, 85, rfl⟩
abbrev main_cst_18 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩

abbrev nD : Nat := 1
abbrev τ : Topo := Topo.v5e

variable {F : FTy → Type} [FloatOps F]
-- ==== Proof.Run.lean ====
/- The run of the kernel program with its result: every weakly fair execution ends with the result array at the
   contents the last boundary gives it, and the arguments as launched. The launch is set up as the generated frame
   sets it up; only the facts read off the final state differ. -/
module

public import proofs.«01_k».proof.Proof.Gen.KernelIdeal.Frame

@[expose] public section

set_option maxRecDepth 16384

noncomputable section

namespace Cert.KernelIdeal.ByHand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The result array ends at the last boundary's contents, the arguments as launched. -/
theorem run : θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.ByHand

end
-- ==== Proof.Arrays.lean ====
/- What each region's output arrays hold at its exit, from the contents at its entry. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.ByHand

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]
variable (V : (c : Dev nD) → (b : Ref sig .tc) → Buf (Elt F) ((c : Thread nD τ).loc b)) (c : Dev nD)

/-! ### Which block each window holds at a grid point -/

theorem at0_0 : ∀ t : Fin grid0.N, win0_0.index t = ![0, 0] := by decide +kernel
theorem at0_1 : ∀ t : Fin grid0.N, win0_1.index t = ![0, 0] := by decide +kernel
theorem at0_2 : ∀ t : Fin grid0.N, win0_2.index t = ![0, 0] := by decide +kernel
theorem at0_3 : ∀ t : Fin grid0.N, win0_3.index t = ![0, 0] := by decide +kernel
theorem at0_4 : ∀ t : Fin grid0.N, win0_4.index t = ![0, 0] := by decide +kernel
theorem at0_5 : ∀ t : Fin grid0.N, win0_5.index t = ![0, 0] := by decide +kernel
theorem at0_6 : ∀ t : Fin grid0.N, win0_6.index t = ![0, 0] := by decide +kernel
theorem at1_0 : ∀ t : Fin grid1.N, win1_0.index t = ![t.val, 0] := by decide +kernel
theorem at1_1 : ∀ t : Fin grid1.N, win1_1.index t = ![0, 0] := by decide +kernel
theorem at1_2 : ∀ t : Fin grid1.N, win1_2.index t = ![0, 0] := by decide +kernel
theorem at1_3 : ∀ t : Fin grid1.N, win1_3.index t = ![0, 0] := by decide +kernel
theorem at1_4 : ∀ t : Fin grid1.N, win1_4.index t = ![0, 0] := by decide +kernel
theorem at1_5 : ∀ t : Fin grid1.N, win1_5.index t = ![t.val, 0, 0] := by decide +kernel
theorem at1_6 : ∀ t : Fin grid1.N, win1_6.index t = ![t.val, 0] := by decide +kernel
theorem at2_0 : ∀ t : Fin grid2.N, win2_0.index t = ![0, 0] := by decide +kernel
theorem at2_1 : ∀ t : Fin grid2.N, win2_1.index t = ![0, 0] := by decide +kernel
theorem at2_2 : ∀ t : Fin grid2.N, win2_2.index t = ![0, 0] := by decide +kernel
theorem at2_3 : ∀ t : Fin grid2.N, win2_3.index t = ![0, 0] := by decide +kernel
theorem at2_4 : ∀ t : Fin grid2.N, win2_4.index t = ![0, 0] := by decide +kernel
theorem at2_5 : ∀ t : Fin grid2.N, win2_5.index t = ![0, 0] := by decide +kernel
theorem at2_6 : ∀ t : Fin grid2.N, win2_6.index t = ![0, 0] := by decide +kernel
theorem at3_0 : ∀ t : Fin grid3.N, win3_0.index t = ![t.val, 0, 0] := by decide +kernel
theorem at3_1 : ∀ t : Fin grid3.N, win3_1.index t = ![0, 0] := by decide +kernel
theorem at3_2 : ∀ t : Fin grid3.N, win3_2.index t = ![0, 0] := by decide +kernel
theorem at3_3 : ∀ t : Fin grid3.N, win3_3.index t = ![0, 0] := by decide +kernel
theorem at3_4 : ∀ t : Fin grid3.N, win3_4.index t = ![0, 0] := by decide +kernel
theorem at3_5 : ∀ t : Fin grid3.N, win3_5.index t = ![t.val, 0] := by decide +kernel

/-! ### The input blocks -/

theorem block0_0 (t : Fin cfg0.N) : iblk0 V c 0 t = V c main_arg0 := by
  funext y; blk_ext [iblk0, at0_0 t]
theorem block0_1 (t : Fin cfg0.N) : iblk0 V c 1 t = V c main_arg2 := by
  funext y; blk_ext [iblk0, at0_1 t]
theorem block0_2 (t : Fin cfg0.N) : iblk0 V c 2 t = V c main_v0 := by
  funext y; blk_ext [iblk0, at0_2 t]
theorem block1_1 (t : Fin cfg1.N) : iblk1 V c 1 t = V c main_v1_0 := by
  funext y; blk_ext [iblk1, at1_1 t]
theorem block1_2 (t : Fin cfg1.N) : iblk1 V c 2 t = V c main_v1_1 := by
  funext y; blk_ext [iblk1, at1_2 t]
theorem block1_3 (t : Fin cfg1.N) : iblk1 V c 3 t = V c main_v1_2 := by
  funext y; blk_ext [iblk1, at1_3 t]
theorem block1_4 (t : Fin cfg1.N) : iblk1 V c 4 t = V c main_v1_3 := by
  funext y; blk_ext [iblk1, at1_4 t]
theorem block2_0 (t : Fin cfg2.N) : iblk2 V c 0 t = V c main_v2_1 := by
  funext y; blk_ext [iblk2, at2_0 t]
theorem block2_1 (t : Fin cfg2.N) : iblk2 V c 1 t = V c main_arg4 := by
  funext y; blk_ext [iblk2, at2_1 t]
theorem block2_2 (t : Fin cfg2.N) : iblk2 V c 2 t = V c main_v3 := by
  funext y; blk_ext [iblk2, at2_2 t]
theorem block3_1 (t : Fin cfg3.N) : iblk3 V c 1 t = V c main_v4_0 := by
  funext y; blk_ext [iblk3, at3_1 t]
theorem block3_2 (t : Fin cfg3.N) : iblk3 V c 2 t = V c main_v4_1 := by
  funext y; blk_ext [iblk3, at3_2 t]
theorem block3_3 (t : Fin cfg3.N) : iblk3 V c 3 t = V c main_v4_2 := by
  funext y; blk_ext [iblk3, at3_3 t]
theorem block3_4 (t : Fin cfg3.N) : iblk3 V c 4 t = V c main_v4_3 := by
  funext y; blk_ext [iblk3, at3_4 t]

/-- Row block `t` of the adjacency. -/
def rows (a : Vec F S10000x10000 .f32) (t : Fin 25) : Vec F S400x10000 .f32 :=
  fun y => a (ix2 ⟨400 * t.val + (y 0).val, by have : (y 0).val < 400 := (y 0).isLt; omega⟩ (y 1))

/-- Slab `t` of the quantised adjacency. -/
def slab (a : Vec F S25x400x10000 .i8) (t : Fin 25) : Vec F S1x400x10000 .i8 :=
  fun y => a (ix3 t (y 1) (y 2))

theorem block1_0 (t : Fin cfg1.N) : iblk1 V c 0 t = rows (V c main_arg1) t := by
  funext y; unfold rows; blk_ext [iblk1, at1_0 t]
theorem block3_0 (t : Fin cfg3.N) : iblk3 V c 0 t = slab (V c main_v2_0) t := by
  funext y; unfold slab; blk_ext [iblk3, at3_0 t]

/-! ### The arrays of the two preparing regions -/

theorem exit0_3 : (dat0 V c).arrAt 3 cfg0.N = k0_pay5 (V c main_arg0) (V c main_arg2) := by
  refine (dat0 V c).arrAt_eq_of_covers 3 _ (by decide +kernel) fun t hf y => ?_
  blk_simp
  rw [after0_3, block0_0, block0_1, block0_2]
  frame_out
  blk_ext [at0_3 t]

theorem exit0_4 : (dat0 V c).arrAt 4 cfg0.N = k0_pay6 (V c main_arg0) (V c main_arg2) := by
  refine (dat0 V c).arrAt_eq_of_covers 4 _ (by decide +kernel) fun t hf y => ?_
  blk_simp
  rw [after0_4, block0_0, block0_1, block0_2]
  frame_out
  blk_ext [at0_4 t]

theorem exit0_5 : (dat0 V c).arrAt 5 cfg0.N = k0_pay7 (V c main_arg0) (V c main_arg2) (V c main_v0) := by
  refine (dat0 V c).arrAt_eq_of_covers 5 _ (by decide +kernel) fun t hf y => ?_
  blk_simp
  rw [after0_5, block0_0, block0_1, block0_2]
  frame_out
  blk_ext [at0_5 t]

theorem exit0_6 : (dat0 V c).arrAt 6 cfg0.N = k0_pay8 (V c main_arg0) (V c main_arg2) := by
  refine (dat0 V c).arrAt_eq_of_covers 6 _ (by decide +kernel) fun t hf y => ?_
  blk_simp
  rw [after0_6, block0_0, block0_1, block0_2]
  frame_out
  blk_ext [at0_6 t]

theorem exit2_3 : (dat2 V c).arrAt 3 cfg2.N = k2_pay6 (V c main_v2_1) (V c main_arg4) := by
  refine (dat2 V c).arrAt_eq_of_covers 3 _ (by decide +kernel) fun t hf y => ?_
  blk_simp
  rw [after2_3, block2_0, block2_1, block2_2]
  frame_out
  blk_ext [at2_3 t]

theorem exit2_4 : (dat2 V c).arrAt 4 cfg2.N = k2_pay7 (V c main_v2_1) (V c main_arg4) := by
  refine (dat2 V c).arrAt_eq_of_covers 4 _ (by decide +kernel) fun t hf y => ?_
  blk_simp
  rw [after2_4, block2_0, block2_1, block2_2]
  frame_out
  blk_ext [at2_4 t]

theorem exit2_5 : (dat2 V c).arrAt 5 cfg2.N = k2_pay8 (V c main_v2_1) (V c main_arg4) (V c main_v3) := by
  refine (dat2 V c).arrAt_eq_of_covers 5 _ (by decide +kernel) fun t hf y => ?_
  blk_simp
  rw [after2_5, block2_0, block2_1, block2_2]
  frame_out
  blk_ext [at2_5 t]

theorem exit2_6 : (dat2 V c).arrAt 6 cfg2.N = k2_pay1 (k2_pay9 (V c main_v2_1) (V c main_arg4)) := by
  refine (dat2 V c).arrAt_eq_of_covers 6 _ (by decide +kernel) fun t hf y => ?_
  blk_simp
  rw [after2_6, block2_0, block2_1, block2_2]
  frame_out
  blk_ext [at2_6 t]

/-! ### The arrays of the two layers, block by block -/

theorem exit1_5 (G : Vec F S25x400x10000 .i8)
    (hG : ∀ (t : Fin 25) (y : S1x400x10000.Idx), k1_pay2 (rows (V c main_arg1) t) y = G (ix3 t (y 1) (y 2))) :
    (dat1 V c).arrAt 5 cfg1.N = G := by
  refine (dat1 V c).arrAt_eq_of_covers 5 _ (by decide +kernel) fun t hf y => ?_
  blk_simp
  rw [after1_5, block1_0]
  frame_out
  refine (hG t _).trans ?_
  blk_ext [at1_5 t]

theorem exit1_6 (G : Vec F S10000x128 .f32)
    (hG : ∀ (t : Fin 25) (y : S400x128.Idx), k1_pay3 (rows (V c main_arg1) t) (V c main_v1_0) (V c main_v1_1) (V c main_v1_3) (V c main_v1_2) y
      = G (ix2 ⟨400 * t.val + (y 0).val, by have : (y 0).val < 400 := (y 0).isLt; omega⟩ (y 1))) :
    (dat1 V c).arrAt 6 cfg1.N = G := by
  refine (dat1 V c).arrAt_eq_of_covers 6 _ (by decide +kernel) fun t hf y => ?_
  blk_simp
  rw [after1_6, block1_0, block1_1, block1_2, block1_3, block1_4]
  frame_out
  refine (hG t _).trans ?_
  blk_ext [at1_6 t]

theorem exit3_5 (G : Vec F S10000x64 .f32)
    (hG : ∀ (t : Fin 25) (y : S400x64.Idx), k3_pay1 (slab (V c main_v2_0) t) (V c main_v4_0) (V c main_v4_1) (V c main_v4_3) (V c main_v4_2) y
      = G (ix2 ⟨400 * t.val + (y 0).val, by have : (y 0).val < 400 := (y 0).isLt; omega⟩ (y 1))) :
    (dat3 V c).arrAt 5 cfg3.N = G := by
  refine (dat3 V c).arrAt_eq_of_covers 5 _ (by decide +kernel) fun t hf y => ?_
  blk_simp
  rw [after3_5, block3_0, block3_1, block3_2, block3_3, block3_4]
  frame_out
  refine (hG t _).trans ?_
  blk_ext [at3_5 t]

end Cert.KernelIdeal.ByHand

end
-- ==== Proof.Chain.lean ====
/- The result array traced back through the boundaries to the arguments. -/
module

public import proofs.«01_k».proof.Proof.Arrays
public import Idealize.ShloMosaic.Lib.StableHlo.Run

@[expose] public section

set_option maxRecDepth 16384

noncomputable section

namespace Cert.KernelIdeal.ByHand

open Cert.KernelIdeal Cert.KernelIdeal.Gen
open Idealize.ShloMosaic Idealize.ShloMosaic.TcCoe Idealize.ShloMosaic.Tactic Idealize.ShloMosaic.StableHlo
open Idealize.ShloMosaic.Pipeline (Dat Cfg Window)

variable {F : FTy → Type} [FloatOps F]
variable (m : (ℓ : Loc nD τ sig) → Buf (Elt F) ℓ) (ρ : Dev nD → PrngReg) (c : Dev nD)

/-- A bias vector as a row. -/
def row128 (b : Vec F S128 .f32) : Vec F S1x128 .f32 := fun y => b (ix1 (y 1))
/-- A bias vector as a row. -/
def row64 (b : Vec F S64 .f32) : Vec F S1x64 .f32 := fun y => b (ix1 (y 1))

theorem bias1 : V1 m ρ c main_v0 = row128 (m ((c.tc : Thread nD τ).loc main_arg3)) := by
  funext y
  unfold row128
  show StableHlo.after hostOps0 (W0 m ρ c) (Proc.devRef .tc main_v0) y = _
  after_results_simp
  pointwise

theorem bias2 : V4 m ρ c main_v3 = row64 (m ((c.tc : Thread nD τ).loc main_arg5)) := by
  funext y
  unfold row64
  rw [← W3_args m ρ c main_arg5 (by decide)]
  show StableHlo.after hostOps2 (W3 m ρ c) (Proc.devRef .tc main_v3) y = _
  after_results_simp
  pointwise

/-- The arrays the first region leaves. -/
theorem hi1 : V2 m ρ c main_v1_0 = k0_pay5 (m ((c.tc : Thread nD τ).loc main_arg0)) (m ((c.tc : Thread nD τ).loc main_arg2)) := by
  refine (W2_arr m ρ c 3).trans ((exit0_3 _ c).trans ?_)
  rw [show V1 m ρ c main_arg0 = _ from W1_args m ρ c main_arg0 (by decide), show V1 m ρ c main_arg2 = _ from W1_args m ρ c main_arg2 (by decide)]
theorem lo1 : V2 m ρ c main_v1_1 = k0_pay6 (m ((c.tc : Thread nD τ).loc main_arg0)) (m ((c.tc : Thread nD τ).loc main_arg2)) := by
  refine (W2_arr m ρ c 4).trans ((exit0_4 _ c).trans ?_)
  rw [show V1 m ρ c main_arg0 = _ from W1_args m ρ c main_arg0 (by decide), show V1 m ρ c main_arg2 = _ from W1_args m ρ c main_arg2 (by decide)]
theorem vec1 : V2 m ρ c main_v1_2 = k0_pay7 (m ((c.tc : Thread nD τ).loc main_arg0)) (m ((c.tc : Thread nD τ).loc main_arg2))
    (row128 (m ((c.tc : Thread nD τ).loc main_arg3))) := by
  refine (W2_arr m ρ c 5).trans ((exit0_5 _ c).trans ?_)
  rw [show V1 m ρ c main_arg0 = _ from W1_args m ρ c main_arg0 (by decide), show V1 m ρ c main_arg2 = _ from W1_args m ρ c main_arg2 (by decide), bias1]
theorem step1 : V2 m ρ c main_v1_3 = k0_pay8 (m ((c.tc : Thread nD τ).loc main_arg0)) (m ((c.tc : Thread nD τ).loc main_arg2)) := by
  refine (W2_arr m ρ c 6).trans ((exit0_6 _ c).trans ?_)
  rw [show V1 m ρ c main_arg0 = _ from W1_args m ρ c main_arg0 (by decide), show V1 m ρ c main_arg2 = _ from W1_args m ρ c main_arg2 (by decide)]

/-- What one block of rows of the first layer computes. -/
def layer1 (x : Vec F S10000x128 .f32) (w : Vec F S128x128 .f32) (b : Vec F S128 .f32) (a : Vec F S10000x10000 .f32) (t : Fin 25) :
    Vec F S400x128 .f32 :=
  k1_pay3 (rows a t) (k0_pay5 x w) (k0_pay6 x w) (k0_pay8 x w) (k0_pay7 x w (row128 b))

/-- What one block of rows of the second layer computes from the quantised adjacency and the hidden layer. -/
def layer2 (h : Vec F S10000x128 .f32) (w : Vec F S128x64 .f32) (b : Vec F S64 .f32) (q : Vec F S25x400x10000 .i8) (t : Fin 25) :
    Vec F S400x64 .f32 :=
  k3_pay1 (slab q t) (k2_pay6 h w) (k2_pay7 h w) (k2_pay1 (k2_pay9 h w)) (k2_pay8 h w (row64 b))

/-- The result, given what the blocks of the two layers are blocks of. -/
theorem result (Q : Vec F S25x400x10000 .i8) (H : Vec F S10000x128 .f32) (O : Vec F S10000x64 .f32)
    (hQ : ∀ (t : Fin 25) (y : S1x400x10000.Idx), k1_pay2 (rows (m ((c.tc : Thread nD τ).loc main_arg1)) t) y = Q (ix3 t (y 1) (y 2)))
    (hH : ∀ (t : Fin 25) (y : S400x128.Idx), layer1 (m ((c.tc : Thread nD τ).loc main_arg0)) (m ((c.tc : Thread nD τ).loc main_arg2))
        (m ((c.tc : Thread nD τ).loc main_arg3)) (m ((c.tc : Thread nD τ).loc main_arg1)) t y
      = H (ix2 ⟨400 * t.val + (y 0).val, by have : (y 0).val < 400 := (y 0).isLt; omega⟩ (y 1)))
    (hO : ∀ (t : Fin 25) (y : S400x64.Idx), layer2 H (m ((c.tc : Thread nD τ).loc main_arg4)) (m ((c.tc : Thread nD τ).loc main_arg5)) Q t y
      = O (ix2 ⟨400 * t.val + (y 0).val, by have : (y 0).val < 400 := (y 0).isLt; omega⟩ (y 1))) :
    W6 m ρ c (Proc.devRef .tc main_v5) = O := by
  have hA : V2 m ρ c main_arg1 = m ((c.tc : Thread nD τ).loc main_arg1) := W2_args m ρ c main_arg1 (by decide)
  have eQ : V3 m ρ c main_v2_0 = Q := (W3_arr m ρ c 5).trans (exit1_5 _ c Q (by rw [hA]; exact hQ))
  have eH : V3 m ρ c main_v2_1 = H := (W3_arr m ρ c 6).trans (exit1_6 _ c H (by
    rw [hA, hi1, lo1, vec1, step1]; exact hH))
  have eH4 : V4 m ρ c main_v2_1 = H := (W4_of m ρ c main_v2_1 (by decide)).trans eH
  have eW : V4 m ρ c main_arg4 = m ((c.tc : Thread nD τ).loc main_arg4) := W4_args m ρ c main_arg4 (by decide)
  have eQ5 : V5 m ρ c main_v2_0 = Q := (W5_of m ρ c main_v2_0 (by decide)).trans ((W4_of m ρ c main_v2_0 (by decide)).trans eQ)
  have e0 : V5 m ρ c main_v4_0 = k2_pay6 H (m ((c.tc : Thread nD τ).loc main_arg4)) :=
    (W5_arr m ρ c 3).trans ((exit2_3 _ c).trans (by rw [eH4, eW]))
  have e1 : V5 m ρ c main_v4_1 = k2_pay7 H (m ((c.tc : Thread nD τ).loc main_arg4)) :=
    (W5_arr m ρ c 4).trans ((exit2_4 _ c).trans (by rw [eH4, eW]))
  have e2 : V5 m ρ c main_v4_2 = k2_pay8 H (m ((c.tc : Thread nD τ).loc main_arg4)) (row64 (m ((c.tc : Thread nD τ).loc main_arg5))) :=
    (W5_arr m ρ c 5).trans ((exit2_5 _ c).trans (by rw [eH4, eW, bias2]))
  have e3 : V5 m ρ c main_v4_3 = k2_pay1 (k2_pay9 H (m ((c.tc : Thread nD τ).loc main_arg4))) :=
    (W5_arr m ρ c 6).trans ((exit2_6 _ c).trans (by rw [eH4, eW]))
  exact (W6_arr m ρ c 5).trans (exit3_5 _ c O (by rw [eQ5, e0, e1, e2, e3]; exact hO))

end Cert.KernelIdeal.ByHand

end
-- ==== Proof.Quant.lean ====
/-
  Numbers of the quantiser, apart from the program: a matrix entry's 16-bit code and the two bytes it is split into, an
  adjacency entry's 8-bit code, and the literals of the program as reals.
-/
module

public import Idealize.ShloMosaic.Lib.Pointwise
public import Idealize.ShloMosaic.Lib.KernelVsHost
public import Idealize.ShloMosaic.Lib.IntMxu

@[expose] public section

noncomputable section

namespace Cert.Quant

open Idealize.ShloMosaic

/-! ### The literals -/

abbrev lit (b : BitVec 32) : EReal := Ideal.ofBits .f32 b

theorem lit_255 : lit 0x437F0000#32 = ((255 : ℝ) : EReal) := by
  simp [lit, Ideal.ofBits, Ideal.ieee]
  rw [← EReal.coe_mul]; norm_num
theorem lit_128 : lit 0x43000000#32 = ((128 : ℝ) : EReal) := by
  simp [lit, Ideal.ofBits, Ideal.ieee]
  rw [← EReal.coe_mul]; norm_num
theorem lit_neg128 : lit 0xC3000000#32 = ((-128 : ℝ) : EReal) := by
  simp [lit, Ideal.ofBits, Ideal.ieee]
  rw [← EReal.coe_mul]; norm_num
theorem lit_127 : lit 0x42FE0000#32 = ((127 : ℝ) : EReal) := by
  simp [lit, Ideal.ofBits, Ideal.ieee]
  rw [← EReal.coe_mul]; norm_num
theorem lit_256 : lit 0x43800000#32 = ((256 : ℝ) : EReal) := by
  simp [lit, Ideal.ofBits, Ideal.ieee]
  rw [← EReal.coe_mul]; norm_num
theorem lit_256th : lit 0x3B800000#32 = ((1 / 256 : ℝ) : EReal) := by
  simp [lit, Ideal.ofBits, Ideal.ieee]
  rw [← EReal.coe_mul]; norm_num
theorem lit_limit : lit 0x4C800000#32 = ((67108864 : ℝ) : EReal) := by
  simp [lit, Ideal.ofBits, Ideal.ieee]
  rw [← EReal.coe_pow, ← EReal.coe_mul]; norm_num
theorem lit_32000th : lit 0x3803126F#32 = ((8589935 / 274877906944 : ℝ) : EReal) := by
  simp [lit, Ideal.ofBits, Ideal.ieee]
  rw [← EReal.coe_mul]; norm_num

/-! ### A matrix entry's code -/

/-- The code of the entry `v` at scale `s`, as a number. -/
def code (v s : EReal) : EReal := Ideal.liftRound Ideal.roundHalfEven (v * Ideal.div 1 s)

/-- The same, as the 32-bit integer the kernel converts it to. -/
def code32 (v s : EReal) : BitVec 32 := Ideal.fptosi 32 (code v s)

/-- The high byte of a code, and the low one, both in 32 bits. -/
def high (k : BitVec 32) : BitVec 32 := IntOp.shrsi .vector (IntOp.addi k 128#32) 8#32
def low (k : BitVec 32) : BitVec 32 := IntOp.subi k (IntOp.shli .vector (high k) 8#32)

theorem round_le {r : ℝ} {n : ℤ} (h : r ≤ n) : Ideal.roundHalfEven r ≤ n := by
  have h1 : ⌊r⌋ ≤ n := by exact_mod_cast (Int.floor_le r).trans h
  rcases h1.lt_or_eq with h2 | h2
  · unfold Ideal.roundHalfEven; dsimp only; split_ifs <;> omega
  · have : r - (⌊r⌋ : ℝ) < 1 / 2 := by rw [h2]; linarith
    unfold Ideal.roundHalfEven; dsimp only; rw [if_pos this]; omega

theorem le_round {r : ℝ} {n : ℤ} (h : (n : ℝ) ≤ r) : n ≤ Ideal.roundHalfEven r := by
  have h1 : n ≤ ⌊r⌋ := Int.le_floor.mpr h
  unfold Ideal.roundHalfEven; dsimp only; split_ifs <;> omega

theorem round_zero : Ideal.roundHalfEven 0 = 0 :=
  le_antisymm (round_le (by simp)) (le_round (by simp))

/-- An entry no larger than `M` in magnitude has, at the scale of `M`, an integer of at most 32000 for code; and zero when
    the scale is infinite. -/
theorem code_eq {v M : EReal} (h1 : v ≤ M) (h2 : -v ≤ M) :
    ∃ k : ℤ, -32000 ≤ k ∧ k ≤ 32000 ∧ code v (M * lit 0x3803126F#32) = ((k : ℝ) : EReal)
      ∧ (M * lit 0x3803126F#32 = ⊤ → k = 0) := by
  have hz : ∀ x : EReal, x = 0 → Ideal.liftRound Ideal.roundHalfEven x = (((0 : ℤ) : ℝ) : EReal) := by
    rintro x rfl
    rw [← EReal.coe_zero, Ideal.liftRound_coe, round_zero]
  have h0 : 0 ≤ M := by
    rcases le_total 0 v with h | h
    · exact h.trans h1
    · exact (EReal.neg_le_neg_iff.mpr h |>.trans' (by simp)).trans h2
  rw [lit_32000th]
  induction M using EReal.rec with
  | bot => exact absurd h0 (by simp)
  | top =>
    have hs : (⊤ : EReal) * ((8589935 / 274877906944 : ℝ) : EReal) = ⊤ := EReal.top_mul_coe_of_pos (by norm_num)
    refine ⟨0, by norm_num, by norm_num, hz _ ?_, fun _ => rfl⟩
    rw [hs, Ideal.div, if_neg (by simp)]
    simp
  | coe r =>
    have hr : 0 ≤ r := by exact_mod_cast h0
    obtain ⟨x, rfl⟩ : ∃ x : ℝ, v = x := by
      induction v using EReal.rec with
      | bot => simp at h2
      | top => simp at h1
      | coe x => exact ⟨x, rfl⟩
    have hx1 : x ≤ r := by exact_mod_cast h1
    have hx2 : -x ≤ r := by exact_mod_cast h2
    rcases hr.lt_or_eq with hr' | rfl
    · have hs : 0 < r * (8589935 / 274877906944 : ℝ) := by positivity
      refine ⟨Ideal.roundHalfEven (x * (r * (8589935 / 274877906944 : ℝ))⁻¹), le_round ?_, round_le ?_, ?_, ?_⟩
      · push_cast
        rw [← div_eq_mul_inv, le_div_iff₀ hs]; nlinarith
      · push_cast
        rw [← div_eq_mul_inv, div_le_iff₀ hs]; nlinarith
      · rw [← EReal.coe_mul, code, Ideal.div, if_neg (by exact_mod_cast hs.ne'), one_mul, ← EReal.coe_inv, ← EReal.coe_mul,
          Ideal.liftRound_coe]
      · intro h; rw [← EReal.coe_mul] at h; exact absurd h (EReal.coe_ne_top _)
    · have : x = 0 := by linarith
      subst this
      refine ⟨0, by norm_num, by norm_num, hz _ (by simp), fun _ => rfl⟩

theorem code32_toInt {v s : EReal} {k : ℤ} (h : code v s = ((k : ℝ) : EReal)) (h1 : -32000 ≤ k) (h2 : k ≤ 32000) :
    (code32 v s).toInt = k := by
  have : Ideal.toIntClamped (-(2 ^ (32 - 1) : Nat)) ((2 ^ (32 - 1) : Nat) - 1) ((k : ℝ) : EReal) = k := by
    rw [Ideal.toIntClamped_coe, Int.floor_intCast, Int.ceil_intCast, ite_self]; norm_num; omega
  rw [code32, h, Ideal.fptosi, this, BitVec.toInt_ofInt]
  exact Int.bmod_eq_of_le (by norm_num; omega) (by norm_num; omega)

theorem high_toInt {b : BitVec 32} {k : ℤ} (h : b.toInt = k) (h1 : -32000 ≤ k) (h2 : k ≤ 32000) :
    (high b).toInt = (k + 128) / 256 := by
  have h3 : (b + 128#32).toInt = k + 128 := by
    rw [BitVec.toInt_add, h]
    exact Int.bmod_eq_of_le (by simp; omega) (by simp; omega)
  rw [high, IntOp.shrsi, if_pos (by decide), IntOp.addi, BitVec.toInt_sshiftRight', h3, Int.shiftRight_eq_div_pow]
  rfl

theorem low_toInt {b : BitVec 32} {k : ℤ} (h : b.toInt = k) (h1 : -32000 ≤ k) (h2 : k ≤ 32000) :
    (low b).toInt = k - 256 * ((k + 128) / 256) := by
  have h3 := high_toInt h h1 h2
  have h4 : (high b <<< (8#32 : BitVec 32)).toInt = 256 * ((k + 128) / 256) := by
    rw [show high b <<< (8#32 : BitVec 32) = high b * 256#32 from by
      rw [BitVec.shiftLeft_eq', BitVec.shiftLeft_eq_mul_twoPow]; rfl]
    rw [BitVec.toInt_mul, h3]
    rw [show (256#32 : BitVec 32).toInt = 256 from rfl, mul_comm]
    exact Int.bmod_eq_of_le (by norm_num; omega) (by norm_num; omega)
  rw [low, IntOp.subi, IntOp.shli, if_pos (by decide), BitVec.toInt_sub, h, h4]
  exact Int.bmod_eq_of_le (by norm_num; omega) (by norm_num; omega)

/-- A 32-bit integer that fits a byte is kept by the conversion to one. -/
theorem byte_toInt {b : BitVec 32} (h1 : -128 ≤ b.toInt) (h2 : b.toInt ≤ 127) : (b.setWidth 8).toInt = b.toInt := by
  rw [BitVec.toInt_setWidth]
  rw [show ((b.toNat : ℤ)).bmod (2 ^ 8) = (b.toInt).bmod (2 ^ 8) from by
    rw [BitVec.toInt_eq_toNat_bmod]
    exact (Int.bmod_bmod_of_dvd (by norm_num)).symm]
  exact Int.bmod_eq_of_le (by norm_num; omega) (by norm_num; omega)

/-- The high part of an integer code taken in real arithmetic. -/
theorem floor_code (k : ℤ) :
    Ideal.liftRound Int.floor ((((k : ℝ) : EReal) + lit 0x43000000#32) * lit 0x3B800000#32)
      = ((((k + 128) / 256 : ℤ) : ℝ) : EReal) := by
  rw [lit_128, lit_256th, ← EReal.coe_add, ← EReal.coe_mul, Ideal.liftRound_coe]
  congr 2
  rw [Int.floor_eq_iff]
  have h1 : 256 * ((k + 128) / 256) ≤ k + 128 := by omega
  have h2 : k + 128 < 256 * ((k + 128) / 256) + 256 := by omega
  have h1' : (256 : ℝ) * (((k + 128) / 256 : ℤ) : ℝ) ≤ k + 128 := by exact_mod_cast h1
  have h2' : (k : ℝ) + 128 < 256 * (((k + 128) / 256 : ℤ) : ℝ) + 256 := by exact_mod_cast h2
  constructor <;> linarith

/-- The low part of an integer code taken in real arithmetic. -/
theorem rest_code (k z : ℤ) :
    ((k : ℝ) : EReal) - ((z : ℝ) : EReal) * lit 0x43800000#32 = (((k - 256 * z : ℤ) : ℝ) : EReal) := by
  rw [lit_256, ← EReal.coe_mul, ← EReal.coe_sub]
  exact congrArg _ (by push_cast; ring)

/-! ### An adjacency entry's code -/

/-- The adjacency entry `a` scaled and rounded. -/
def level (a : EReal) : EReal := Ideal.liftRound Ideal.roundHalfEven (a * lit 0x437F0000#32 - lit 0x43000000#32)

/-- Its code, as the byte the kernel converts it to. -/
def byte (a : EReal) : BitVec 8 := Ideal.fptosi 8 (level a)

/-- The byte is the level clipped to [-128, 127]. -/
theorem byte_eq (a : EReal) :
    min (lit 0x42FE0000#32) (max (lit 0xC3000000#32) (level a)) = (((byte a).toInt : ℝ) : EReal) := by
  have key : ∀ z : ℤ, (BitVec.ofInt 8 (max (-128) (min 127 z))).toInt = max (-128) (min 127 z) := fun z => by
    rw [BitVec.toInt_ofInt]
    exact Int.bmod_eq_of_le (by norm_num) (by norm_num)
  rw [lit_127, lit_neg128, byte, level]
  generalize a * lit 0x437F0000#32 - lit 0x43000000#32 = x
  induction x using EReal.rec with
  | bot =>
    rw [Ideal.liftRound_bot, Ideal.fptosi, Ideal.toIntClamped_bot]
    rw [show (BitVec.ofInt 8 (-(2 ^ (8 - 1) : Nat))).toInt = -128 from by decide, max_eq_left bot_le]
    rw [min_eq_right (by exact_mod_cast (by norm_num : (-128 : ℝ) ≤ 127))]; norm_num
  | top =>
    rw [Ideal.liftRound_top, Ideal.fptosi, Ideal.toIntClamped_top]
    rw [show (BitVec.ofInt 8 ((2 ^ (8 - 1) : Nat) - 1)).toInt = 127 from by decide, max_eq_right le_top, min_eq_left le_top]
    norm_num
  | coe r =>
    rw [Ideal.liftRound_coe, Ideal.fptosi, Ideal.toIntClamped_coe, Int.floor_intCast, Int.ceil_intCast, ite_self]
    have := key (Ideal.roundHalfEven r)
    norm_num at this ⊢
    rw [this]
    push_cast
    rw [max_min_distrib_left, max_eq_right (by norm_num : (-128 : ℝ) ≤ 127)]
    rw [EReal.coe_strictMono.monotone.map_min, EReal.coe_strictMono.monotone.map_max, EReal.coe_neg]

/-! ### One element of a layer -/

section Layer

variable {n : Nat}

/-- The largest magnitude of a matrix. -/
def peak (M : Fin 10000 → Fin n → EReal) : EReal :=
  Finset.univ.fold max (lit 0xFF800000#32) fun p : Fin 10000 × Fin n => max (M p.1 p.2) (-M p.1 p.2)

/-- The scale of a matrix's codes. -/
def scale (M : Fin 10000 → Fin n → EReal) : EReal := peak M * lit 0x3803126F#32

/-- The adjacency code as a number: the level, clipped. -/
def clipped (a : EReal) : EReal := min (lit 0x42FE0000#32) (max (lit 0xC3000000#32) (level a))

/-- The element (i, j) of a layer before its activation: the product of the two quantised factors, the exact share of the
    offset 128, the bias. -/
def conv (A : Fin 10000 → Fin 10000 → EReal) (M : Fin 10000 → Fin n → EReal) (b : Fin n → EReal) (i : Fin 10000) (j : Fin n) :
    EReal :=
  (∑ k, Ideal.div (clipped (A i k)) (lit 0x437F0000#32) * (code (M k j) (scale M) * scale M))
    + lit 0x3F008081#32 * ∑ r, M r j + b j

/-- A code's high and low parts in real arithmetic. -/
def upper (v s : EReal) : EReal := Ideal.liftRound Int.floor ((code v s + lit 0x43000000#32) * lit 0x3B800000#32)
def lower (v s : EReal) : EReal := code v s - upper v s * lit 0x43800000#32

/-- What is asked of element (i, j) of a layer's two integer products. -/
def InRange (A : Fin 10000 → Fin 10000 → EReal) (M : Fin 10000 → Fin n → EReal) (i : Fin 10000) (j : Fin n) : Prop :=
  (∑ k, max (clipped (A i k)) (-clipped (A i k)) * max (upper (M k j) (scale M)) (-upper (M k j) (scale M)) ≤ lit 0x4C800000#32)
  ∧ (∑ k, max (clipped (A i k)) (-clipped (A i k)) * max (lower (M k j) (scale M)) (-lower (M k j) (scale M)) ≤ lit 0x4C800000#32)

/-- The two bytes of a code, as the kernel holds them. -/
def high8 (v s : EReal) : BitVec 8 := (high (code32 v s)).setWidth 8
def low8 (v s : EReal) : BitVec 8 := (low (code32 v s)).setWidth 8

theorem le_fold {ι : Type} [Fintype ι] (c : EReal) (f : ι → EReal) (p : ι) : f p ≤ Finset.univ.fold max c f :=
  (Finset.le_fold_max _).mpr (Or.inr ⟨p, Finset.mem_univ p, le_rfl⟩)

theorem le_peak (M : Fin 10000 → Fin n → EReal) (i : Fin 10000) (j : Fin n) : M i j ≤ peak M ∧ -M i j ≤ peak M := by
  have : max (M i j) (-M i j) ≤ peak M :=
    le_fold (lit 0xFF800000#32) (fun p : Fin 10000 × Fin n => max (M p.1 p.2) (-M p.1 p.2)) (i, j)
  exact ⟨(le_max_left _ _).trans this, (le_max_right _ _).trans this⟩

/-- The code of an entry, an integer k; its two bytes and its two real parts all in terms of k. -/
theorem entry (M : Fin 10000 → Fin n → EReal) (i : Fin 10000) (j : Fin n) :
    ∃ k : ℤ, code (M i j) (scale M) = ((k : ℝ) : EReal)
      ∧ (scale M = ⊤ → k = 0)
      ∧ 256 * (high8 (M i j) (scale M)).toInt + (low8 (M i j) (scale M)).toInt = k
      ∧ upper (M i j) (scale M) = (((high8 (M i j) (scale M)).toInt : ℝ) : EReal)
      ∧ lower (M i j) (scale M) = (((low8 (M i j) (scale M)).toInt : ℝ) : EReal) := by
  obtain ⟨k, h1, h2, h3, h4⟩ := code_eq (le_peak M i j).1 (le_peak M i j).2
  change code (M i j) (scale M) = _ at h3
  change scale M = ⊤ → _ at h4
  have hk := code32_toInt h3 h1 h2
  have hh := high_toInt hk h1 h2
  have hl := low_toInt hk h1 h2
  have hh8 : (high8 (M i j) (scale M)).toInt = (k + 128) / 256 := by
    rw [high8, byte_toInt (by omega) (by omega), hh]
  have hl8 : (low8 (M i j) (scale M)).toInt = k - 256 * ((k + 128) / 256) := by
    rw [low8, byte_toInt (by omega) (by omega), hl]
  have hu : upper (M i j) (scale M) = ((((k + 128) / 256 : ℤ) : ℝ) : EReal) := by
    rw [upper, h3, floor_code]
  refine ⟨k, h3, h4, by omega, by rw [hu, hh8], ?_⟩
  rw [lower, hu, h3, rest_code, hl8]

theorem scale_nonneg (M : Fin 10000 → Fin n → EReal) (j : Fin n) : 0 ≤ scale M := by
  have h := le_peak M ⟨0, Nat.succ_pos 9999⟩ j
  have h0 : 0 ≤ peak M := by
    rcases le_total 0 (M ⟨0, Nat.succ_pos 9999⟩ j) with h' | h'
    · exact h'.trans h.1
    · exact (EReal.neg_le_neg_iff.mpr h' |>.trans' (by simp)).trans h.2
  rw [scale, lit_32000th]
  exact mul_nonneg h0 (by exact_mod_cast (by norm_num : (0 : ℝ) ≤ 8589935 / 274877906944))

theorem coe_sum (f : Fin 10000 → ℝ) : ((∑ k, f k : ℝ) : EReal) = ∑ k, ((f k : ℝ) : EReal) :=
  map_sum (⟨⟨Real.toEReal, EReal.coe_zero⟩, EReal.coe_add⟩ : ℝ →+ EReal) f Finset.univ

/-- A total of magnitudes within the bound, in integers. -/
theorem total_le {p q : Fin 10000 → EReal} {x y : Fin 10000 → ℤ} (hp : ∀ k, p k = ((x k : ℝ) : EReal))
    (hq : ∀ k, q k = ((y k : ℝ) : EReal)) (h : ∑ k, max (p k) (-p k) * max (q k) (-q k) ≤ lit 0x4C800000#32) :
    ∑ k, (x k * y k).natAbs ≤ 67108864 := by
  have e : ∀ k, max (p k) (-p k) * max (q k) (-q k) = ((((x k * y k).natAbs : ℕ) : ℝ) : EReal) := fun k => by
    have a : ∀ z : ℤ, max (((z : ℝ) : EReal)) (-((z : ℝ) : EReal)) = ((|(z : ℝ)| : ℝ) : EReal) := fun z => by
      rw [← EReal.coe_neg, ← EReal.coe_strictMono.monotone.map_max]; rfl
    rw [hp, hq, a, a, ← EReal.coe_mul, ← abs_mul, Nat.cast_natAbs]
    push_cast; rfl
  rw [Finset.sum_congr rfl fun k _ => e k, ← coe_sum, lit_limit, EReal.coe_le_coe_iff] at h
  refine Nat.cast_le (α := ℝ) |>.mp (le_trans (le_of_eq ?_) (h.trans (le_of_eq ?_)))
  · rw [Nat.cast_sum]
  · norm_num

/-- The kernel's element of a layer is the reference's. -/
theorem layer_eq (A : Fin 10000 → Fin 10000 → EReal) (M : Fin 10000 → Fin n → EReal) (b : Fin n → EReal)
    (i : Fin 10000) (j : Fin n) :
    (lit 0x43800000#32 * (((∑ k, (byte (A i k)).toInt * (high8 (M k j) (scale M)).toInt : ℤ) : ℝ) : EReal)
        + (((∑ k, (byte (A i k)).toInt * (low8 (M k j) (scale M)).toInt : ℤ) : ℝ) : EReal))
        * Ideal.div (scale M) (lit 0x437F0000#32)
      + (lit 0x3F008081#32 * ∑ r, M r j + b j) = conv A M b i j := by
  choose K hc ht hs hu hl using fun k => entry M k j
  rw [conv, ← add_assoc]
  refine congrArg (· + lit 0x3F008081#32 * ∑ r, M r j + b j) ?_
  have e : ∀ k, Ideal.div (clipped (A i k)) (lit 0x437F0000#32)
      = (((byte (A i k)).toInt * (255 : ℝ)⁻¹ : ℝ) : EReal) := fun k => by
    rw [clipped, byte_eq, lit_255, Ideal.div, if_neg (by exact_mod_cast (by norm_num : (255 : ℝ) ≠ 0)), ← EReal.coe_inv,
      ← EReal.coe_mul]
  simp only [e, hc]
  rw [lit_256, lit_255, Ideal.div, if_neg (by exact_mod_cast (by norm_num : (255 : ℝ) ≠ 0)), ← EReal.coe_inv, ← EReal.coe_mul,
    ← EReal.coe_add]
  have t : (256 : ℝ) * ((∑ k, (byte (A i k)).toInt * (high8 (M k j) (scale M)).toInt : ℤ) : ℝ)
      + ((∑ k, (byte (A i k)).toInt * (low8 (M k j) (scale M)).toInt : ℤ) : ℝ)
      = ∑ k, ((byte (A i k)).toInt : ℝ) * (K k : ℝ) := by
    push_cast
    rw [Finset.mul_sum, ← Finset.sum_add_distrib]
    refine Finset.sum_congr rfl fun k _ => ?_
    rw [← hs k]; push_cast; ring
  rw [t]
  have h0 := scale_nonneg M j
  generalize scale M = s at h0 ht ⊢
  induction s using EReal.rec with
  | bot => exact absurd h0 (by simp)
  | top => simp [ht _ rfl]
  | coe r =>
    simp only [← EReal.coe_mul, ← coe_sum]
    refine congrArg Real.toEReal ?_
    rw [Finset.sum_mul]
    exact Finset.sum_congr rfl fun k _ => by ring

theorem high_total {A : Fin 10000 → Fin 10000 → EReal} {M : Fin 10000 → Fin n → EReal} {i : Fin 10000} {j : Fin n}
    (h : InRange A M i j) : ∑ k, ((byte (A i k)).toInt * (high8 (M k j) (scale M)).toInt).natAbs ≤ 67108864 := by
  choose K hc ht hs hu hl using fun k => entry M k j
  exact total_le (fun k => byte_eq (A i k)) hu h.1

theorem low_total {A : Fin 10000 → Fin 10000 → EReal} {M : Fin 10000 → Fin n → EReal} {i : Fin 10000} {j : Fin n}
    (h : InRange A M i j) : ∑ k, ((byte (A i k)).toInt * (low8 (M k j) (scale M)).toInt).natAbs ≤ 67108864 := by
  choose K hc ht hs hu hl using fun k => entry M k j
  exact total_le (fun k => byte_eq (A i k)) hl h.2

end Layer

end Cert.Quant
end
-- ==== Proof.Mat.lean ====
/-
  Operations on matrices of any size, read at an element: the largest magnitude, as the host takes it and as the kernel does
  (both the maximum over all places), and the product of two byte matrices.
-/
module

public import proofs.«01_k».proof.Proof.Quant
public import Idealize.ShloMosaic.Lib.ValueLayout
public import Idealize.ShloMosaic.Lib.MatmulPlain

@[expose] public section

noncomputable section

namespace Cert.Mat

open Idealize.ShloMosaic

variable {N n : Nat}

/-- The maximum of the magnitudes, from the start value `c`. -/
def top (c : EReal) (x : (⟨2, ![N, n]⟩ : Shape).Idx → EReal) : EReal :=
  Finset.univ.fold max c fun p : Fin N × Fin n => max (x (ix2 p.1 p.2)) (-x (ix2 p.1 p.2))

theorem host (x : FVec Ideal ⟨2, ![N, n]⟩ .f32) (v : FVec Ideal ⟨0, ![]⟩ .f32)
    (h : (⟨2, ![N, n]⟩ : Shape).ReducesTo [0, 1] ⟨0, ![]⟩) (hu : 0 < (⟨0, ![]⟩ : Shape).numel) (j : (⟨0, ![]⟩ : Shape).Idx) :
    Host.reduce FloatOps.maximumf (Host.absf x) v h hu j = top (v (Shape.Idx.first hu)) x := by
  rw [Host.reduce_eq_fold]
  exact h.fold_fiber_r2_a01 j (max : EReal → EReal → EReal) (v (Shape.Idx.first hu)) (fun i => max (x i) (-x i))

theorem kernel (x : FVec Ideal ⟨2, ![N, n]⟩ .f32) (b : BitVec 32) (hc : (⟨2, ![N, n]⟩ : Shape).ShapeCasts ⟨3, ![1, N, n]⟩)
    (h : (⟨3, ![1, N, n]⟩ : Shape).Reduces [1, 2] ⟨1, ![1]⟩) (hf : FKind.Formats .f32)
    (hb : b = FKind.maximumf.neutral .f32 hf) (j : (⟨1, ![1]⟩ : Shape).Idx) :
    multiReduction .maximumf [1, 2] ⟨1, ![1]⟩ (shapeCast ⟨3, ![1, N, n]⟩ (absf x) hc) b h hf hb j
      = top (Ideal.ofBits .f32 b) x := by
  rw [multiReduction_maximumf_eq_fold]
  refine (h.fold_fiber_r3_a12 j (max : EReal → EReal → EReal) (Ideal.ofBits .f32 b) _).trans ?_
  refine congrArg (fun f => (Finset.univ : Finset (Fin N × Fin n)).fold max (Ideal.ofBits .f32 b) f) (funext fun p => ?_)
  exact ValueIdx.shapeCast_ab_1ab_apply _ hc _ _ _

/-! ### Products of bytes -/

variable {r K : Nat}

theorem dot_eq (p : IVec ⟨2, ![r, K]⟩ 8) (q : IVec ⟨2, ![K, n]⟩ 8) (i : Fin r) (j : Fin n) :
    dotI8 (DotDims.plain r K n) p q (ix2 i j) = ∑ k : Fin K, (p (ix2 i k)).toInt * (q (ix2 k j)).toInt := by
  unfold dotI8
  rw [← Equiv.sum_comp (DotDims.plainContr r K n).symm]
  refine Finset.sum_congr rfl fun k _ => ?_
  congr 3 <;> (congr 1; funext a; fin_cases a <;> rfl)

theorem absDot_eq (p : IVec ⟨2, ![r, K]⟩ 8) (q : IVec ⟨2, ![K, n]⟩ 8) (i : Fin r) (j : Fin n) :
    absDotI8 (DotDims.plain r K n) p q (ix2 i j)
      = ∑ k : Fin K, ((p (ix2 i k)).toInt * (q (ix2 k j)).toInt).natAbs := by
  unfold absDotI8
  rw [← Equiv.sum_comp (DotDims.plainContr r K n).symm]
  refine Finset.sum_congr rfl fun k _ => ?_
  congr 4 <;> (congr 1; funext a; fin_cases a <;> rfl)

/-- The kernel's integer product, its total of magnitudes within the bound, as a number. -/
theorem product (p : IVec ⟨2, ![r, K]⟩ 8) (q : IVec ⟨2, ![K, n]⟩ 8) (acc : IVec ⟨2, ![r, n]⟩ 32) (h0 : ∀ j, acc j = 0)
    (i : Fin r) (j : Fin n) (hS : ∑ k : Fin K, ((p (ix2 i k)).toInt * (q (ix2 k j)).toInt).natAbs ≤ 67108864) :
    (matmulI8 .v5e (DotDims.plain r K n) p q acc (ix2 i j)).toInt
      = ∑ k : Fin K, (p (ix2 i k)).toInt * (q (ix2 k j)).toInt := by
  rw [matmulI8_toInt _ _ _ _ _ _ (h0 _) (by rw [absDot_eq]; exact hS) (by decide), dot_eq]

/-! ### The kernel's product of floats -/

theorem matmul_eq (x : FVec Ideal ⟨2, ![r, K]⟩ .f32) (w : FVec Ideal ⟨2, ![K, n]⟩ .f32) (i : Fin r) (j : Fin n) :
    matmul (DotDims.plain r K n) none x w (constant ⟨2, ![r, n]⟩ .f32 0x00000000#32) (ix2 i j)
      = ∑ k : Fin K, x (ix2 i k) * w (ix2 k j) := by
  refine (Ideal.matmul_plain_apply none x w _ i j).trans ?_
  show constant (F := Ideal) ⟨2, ![r, n]⟩ .f32 0x00000000#32 (ix2 i j) + ∑ k : Fin K, x (ix2 i k) * w (ix2 k j) = _
  rw [show constant (F := Ideal) ⟨2, ![r, n]⟩ .f32 0x00000000#32 (ix2 i j) = 0 from Ideal.ofBits_zero_f32, zero_add]

/-! ### The kernel's codes -/

section Codes

variable {s : Shape} (M : FVec Ideal s .f32) (v : EReal) (j : s.Idx)

/-- The kernel's 32-bit codes of a matrix at a scale. -/
abbrev codes : IVec s 32 :=
  fptosi (F := Ideal) 32 (roundeven (mulf M (broadcast s (Scalar.divf (F := Ideal) (φ := .f32) (Scalar.ofBits .f32 0x3F800000#32) v))))

theorem codes_apply : codes M v j = Quant.code32 (M j) v := by
  show Ideal.fptosi 32 (Ideal.liftRound Ideal.roundHalfEven (M j * Ideal.div (Ideal.ofBits .f32 0x3F800000#32) v)) = _
  rw [Ideal.ofBits_one_f32]; rfl

/-- Their high parts. -/
abbrev highs (C : IVec s 32) : IVec s 32 := shrsi (addi C (broadcast s 128#32)) (broadcast s 8#32)

theorem high8_apply (h : 8 < 32) : trunci 8 (highs (codes M v)) h j = Quant.high8 (M j) v := by
  show (Quant.high (codes M v j)).setWidth 8 = _
  rw [codes_apply]; rfl

theorem low8_apply (h : 8 < 32) :
    trunci 8 (subi (codes M v) (shli (highs (codes M v)) (broadcast s 8#32))) h j = Quant.low8 (M j) v := by
  show (Quant.low (codes M v j)).setWidth 8 = _
  rw [codes_apply]; rfl

end Codes

end Cert.Mat
end
-- ==== Proof.Layers.lean ====
/-
  What the kernel's blocks hold, read at an element: the matrix product, its scale and bytes, the adjacency's bytes, and a
  layer's block of rows as the reference's layer at those rows.
-/
module

public import proofs.«01_k».proof.Proof.Chain
public import proofs.«01_k».proof.Proof.Mat

@[expose] public section

set_option maxRecDepth 16384

noncomputable section

namespace Cert.KernelIdeal.ByHand

open Cert.KernelIdeal Cert.KernelIdeal.Gen
open Idealize.ShloMosaic Idealize.ShloMosaic.TcCoe Idealize.ShloMosaic.Tactic

/-- A one-element vector read as a number and scaled. -/
theorem single_apply (v : FVec Ideal S1 .f32) (h : S1.ShapeCasts S1x1x1) (hp) (c : EReal) :
    Scalar.mulf (F := Ideal) (φ := .f32) (extractAt ![0, 0, 0] (shapeCast S1x1x1 v h) hp) c = v (ix1 0) * c := by
  pointwise

theorem byte_apply (x : Vec Ideal S400x10000 .f32) (i : Fin 400) (k : Fin 10000) :
    k1_pay1 x (ix2 i k) = Quant.byte (x (ix2 i k)) := by
  unfold k1_pay1; rfl

theorem slab_apply (x : Vec Ideal S400x10000 .f32) (u : Fin 1) (i : Fin 400) (k : Fin 10000) :
    k1_pay2 x (ix3 u i k) = k1_pay1 x (ix2 i k) := by
  unfold k1_pay2; exact ValueIdx.shapeCast_ab_1ab_apply _ _ _ _ _

/-! ### The first layer -/

theorem prod128_apply (x : Vec Ideal S10000x128 .f32) (w : Vec Ideal S128x128 .f32) (r : Fin 10000) (j : Fin 128) :
    k0_pay1 x w (ix2 r j) = ∑ k : Fin 128, x (ix2 r k) * w (ix2 k j) := by
  unfold k0_pay1
  exact Mat.matmul_eq x w r j

/-- The matrix product, by its two coordinates. -/
def mat128 (x : Vec Ideal S10000x128 .f32) (w : Vec Ideal S128x128 .f32) (r : Fin 10000) (j : Fin 128) : EReal :=
  k0_pay1 x w (ix2 r j)

theorem scale128_eq (x : Vec Ideal S10000x128 .f32) (w : Vec Ideal S128x128 .f32) :
    k0_pay2 x w = Quant.scale (mat128 x w) := by
  unfold k0_pay2
  refine (single_apply _ _ _ _).trans ?_
  exact congrArg (· * Quant.lit 0x3803126F#32) (Mat.kernel (k0_pay1 x w) _ _ _ _ _ _)

theorem high128_apply (x : Vec Ideal S10000x128 .f32) (w : Vec Ideal S128x128 .f32) (r : Fin 10000) (j : Fin 128) :
    k0_pay5 x w (ix2 r j) = Quant.high8 (mat128 x w r j) (Quant.scale (mat128 x w)) := by
  rw [← scale128_eq]
  unfold k0_pay5 k0_pay4 k0_pay3
  exact Mat.high8_apply (k0_pay1 x w) (k0_pay2 x w) (ix2 r j) _

theorem low128_apply (x : Vec Ideal S10000x128 .f32) (w : Vec Ideal S128x128 .f32) (r : Fin 10000) (j : Fin 128) :
    k0_pay6 x w (ix2 r j) = Quant.low8 (mat128 x w r j) (Quant.scale (mat128 x w)) := by
  rw [← scale128_eq]
  unfold k0_pay6 k0_pay4 k0_pay3
  exact Mat.low8_apply (k0_pay1 x w) (k0_pay2 x w) (ix2 r j) _

/-- The exact share of a matrix's column sums, and a bias. -/
theorem share128_apply (M : FVec Ideal S10000x128 .f32) (b : Vec Ideal S1x128 .f32) (j : Fin 128) :
    addf (F := Ideal) (mulf (broadcast S1x128 (Scalar.ofBits (F := Ideal) .f32 0x3F008081#32))
        (shapeCast S1x128 (multiReduction .add [0] S128 M 0x00000000#32 reduces_S10000x128_S128 (.inl rfl) rfl) shapeCasts_S128_S1x128))
      (shapeCast S1x128 b shapeCasts_S1x128_S1x128) (ix2 0 j)
      = Quant.lit 0x3F008081#32 * ∑ r : Fin 10000, M (ix2 r j) + b (ix2 0 j) := by
  pointwise [Quant.lit]

theorem vec128_apply (x : Vec Ideal S10000x128 .f32) (w : Vec Ideal S128x128 .f32) (b : Vec Ideal S128 .f32) (j : Fin 128) :
    k0_pay7 x w (row128 b) (ix2 0 j) = Quant.lit 0x3F008081#32 * ∑ r : Fin 10000, mat128 x w r j + b (ix1 j) := by
  unfold k0_pay7
  exact share128_apply (k0_pay1 x w) (row128 b) j

theorem step128_apply (x : Vec Ideal S10000x128 .f32) (w : Vec Ideal S128x128 .f32) (i : S1x1.Idx) :
    k0_pay8 x w i = Ideal.div (Quant.scale (mat128 x w)) (Quant.lit 0x437F0000#32) := by
  rw [← scale128_eq]
  unfold k0_pay8
  rfl

/-- A block of rows of the layer, from the two integer products. -/
theorem block128_apply (q : Vec Ideal S400x10000 .f32) (h l : Vec Ideal S10000x128 .i8) (s : Vec Ideal S1x1 .f32) (v : Vec Ideal S1x128 .f32)
    (i : Fin 400) (j : Fin 128) :
    k1_pay3 q h l s v (ix2 i j)
      = max ((Quant.lit 0x43800000#32
            * (((matmulI8 .v5e (DotDims.plain 400 10000 128) (k1_pay1 q) h (constantI S400x128 32 0#32) (ix2 i j)).toInt : ℝ) : EReal)
          + (((matmulI8 .v5e (DotDims.plain 400 10000 128) (k1_pay1 q) l (constantI S400x128 32 0#32) (ix2 i j)).toInt : ℝ) : EReal))
          * s (ix2 0 0) + v (ix2 0 j)) 0 := by
  pointwise [k1_pay3, Quant.lit]; rfl

/-- The integer parts of the layer's block, and its value: the reference's layer at the block's rows. -/
theorem rows128_eq (x : Vec Ideal S10000x128 .f32) (w : Vec Ideal S128x128 .f32) (b : Vec Ideal S128 .f32)
    (A : Fin 10000 → Fin 10000 → EReal) (p : IVec S400x10000 8) (R : Fin 10000) (i : Fin 400) (j : Fin 128)
    (hp : ∀ k, p (ix2 i k) = Quant.byte (A R k)) (hr : Quant.InRange A (mat128 x w) R j) :
    (Quant.lit 0x43800000#32
        * (((matmulI8 .v5e (DotDims.plain 400 10000 128) p (k0_pay5 x w) (constantI S400x128 32 0#32) (ix2 i j)).toInt : ℝ) : EReal)
      + (((matmulI8 .v5e (DotDims.plain 400 10000 128) p (k0_pay6 x w) (constantI S400x128 32 0#32) (ix2 i j)).toInt : ℝ) : EReal))
      * k0_pay8 x w (ix2 0 0) + k0_pay7 x w (row128 b) (ix2 0 j)
      = Quant.conv A (mat128 x w) (fun j => b (ix1 j)) R j := by
  have hh := Quant.high_total hr
  have hl := Quant.low_total hr
  rw [Mat.product p (k0_pay5 x w) (constantI S400x128 32 0#32) (fun _ => rfl) i j (by simpa only [hp, high128_apply] using hh),
    Mat.product p (k0_pay6 x w) (constantI S400x128 32 0#32) (fun _ => rfl) i j (by simpa only [hp, low128_apply] using hl), step128_apply, vec128_apply]
  simp only [hp, high128_apply, low128_apply]
  exact Quant.layer_eq A (mat128 x w) (fun j => b (ix1 j)) R j

/-! ### The second layer -/

theorem prod64_apply (x : Vec Ideal S10000x128 .f32) (w : Vec Ideal S128x64 .f32) (r : Fin 10000) (j : Fin 64) :
    k2_pay2 x w (ix2 r j) = ∑ k : Fin 128, x (ix2 r k) * w (ix2 k j) := by
  unfold k2_pay2
  rw [shapeCast_id]
  exact Mat.matmul_eq x w r j

/-- The matrix product, by its two coordinates. -/
def mat64 (x : Vec Ideal S10000x128 .f32) (w : Vec Ideal S128x64 .f32) (r : Fin 10000) (j : Fin 64) : EReal :=
  k2_pay2 x w (ix2 r j)

theorem scale64_eq (x : Vec Ideal S10000x128 .f32) (w : Vec Ideal S128x64 .f32) :
    k2_pay3 x w = Quant.scale (mat64 x w) := by
  unfold k2_pay3
  refine (single_apply _ _ _ _).trans ?_
  exact congrArg (· * Quant.lit 0x3803126F#32) (Mat.kernel (k2_pay2 x w) _ _ _ _ _ _)

theorem high64_apply (x : Vec Ideal S10000x128 .f32) (w : Vec Ideal S128x64 .f32) (r : Fin 10000) (j : Fin 64) :
    k2_pay6 x w (ix2 r j) = Quant.high8 (mat64 x w r j) (Quant.scale (mat64 x w)) := by
  rw [← scale64_eq]
  unfold k2_pay6 k2_pay5 k2_pay4
  exact Mat.high8_apply (k2_pay2 x w) (k2_pay3 x w) (ix2 r j) _

theorem low64_apply (x : Vec Ideal S10000x128 .f32) (w : Vec Ideal S128x64 .f32) (r : Fin 10000) (j : Fin 64) :
    k2_pay7 x w (ix2 r j) = Quant.low8 (mat64 x w r j) (Quant.scale (mat64 x w)) := by
  rw [← scale64_eq]
  unfold k2_pay7 k2_pay5 k2_pay4
  exact Mat.low8_apply (k2_pay2 x w) (k2_pay3 x w) (ix2 r j) _

/-- The exact share of a matrix's column sums, and a bias. -/
theorem share64_apply (M : FVec Ideal S10000x64 .f32) (b : Vec Ideal S1x64 .f32) (j : Fin 64) :
    addf (F := Ideal) (mulf (broadcast S1x64 (Scalar.ofBits (F := Ideal) .f32 0x3F008081#32))
        (shapeCast S1x64 (multiReduction .add [0] S64 M 0x00000000#32 reduces_S10000x64_S64 (.inl rfl) rfl) shapeCasts_S64_S1x64))
      (shapeCast S1x64 b shapeCasts_S1x64_S1x64) (ix2 0 j)
      = Quant.lit 0x3F008081#32 * ∑ r : Fin 10000, M (ix2 r j) + b (ix2 0 j) := by
  pointwise [Quant.lit]

theorem vec64_apply (x : Vec Ideal S10000x128 .f32) (w : Vec Ideal S128x64 .f32) (b : Vec Ideal S64 .f32) (j : Fin 64) :
    k2_pay8 x w (row64 b) (ix2 0 j) = Quant.lit 0x3F008081#32 * ∑ r : Fin 10000, mat64 x w r j + b (ix1 j) := by
  unfold k2_pay8
  exact share64_apply (k2_pay2 x w) (row64 b) j

theorem step64_apply (x : Vec Ideal S10000x128 .f32) (w : Vec Ideal S128x64 .f32) (i : S1x1.Idx) :
    k2_pay1 (k2_pay9 x w) i = Ideal.div (Quant.scale (mat64 x w)) (Quant.lit 0x437F0000#32) := by
  rw [← scale64_eq]
  unfold k2_pay1 k2_pay9
  rfl

/-- A block of rows of the layer, from the two integer products. -/
theorem block64_apply (q : Vec Ideal S1x400x10000 .i8) (h l : Vec Ideal S10000x64 .i8) (s : Vec Ideal S1x1 .f32) (v : Vec Ideal S1x64 .f32)
    (i : Fin 400) (j : Fin 64) :
    k3_pay1 q h l s v (ix2 i j)
      =  ((Quant.lit 0x43800000#32
            * (((matmulI8 .v5e (DotDims.plain 400 10000 64) (shapeCast S400x10000 q shapeCasts_S1x400x10000_S400x10000) h (constantI S400x64 32 0#32) (ix2 i j)).toInt : ℝ) : EReal)
          + (((matmulI8 .v5e (DotDims.plain 400 10000 64) (shapeCast S400x10000 q shapeCasts_S1x400x10000_S400x10000) l (constantI S400x64 32 0#32) (ix2 i j)).toInt : ℝ) : EReal))
          * s (ix2 0 0) + v (ix2 0 j)) := by
  pointwise [k3_pay1, Quant.lit]; rfl

/-- The integer parts of the layer's block, and its value: the reference's layer at the block's rows. -/
theorem rows64_eq (x : Vec Ideal S10000x128 .f32) (w : Vec Ideal S128x64 .f32) (b : Vec Ideal S64 .f32)
    (A : Fin 10000 → Fin 10000 → EReal) (p : IVec S400x10000 8) (R : Fin 10000) (i : Fin 400) (j : Fin 64)
    (hp : ∀ k, p (ix2 i k) = Quant.byte (A R k)) (hr : Quant.InRange A (mat64 x w) R j) :
    (Quant.lit 0x43800000#32
        * (((matmulI8 .v5e (DotDims.plain 400 10000 64) p (k2_pay6 x w) (constantI S400x64 32 0#32) (ix2 i j)).toInt : ℝ) : EReal)
      + (((matmulI8 .v5e (DotDims.plain 400 10000 64) p (k2_pay7 x w) (constantI S400x64 32 0#32) (ix2 i j)).toInt : ℝ) : EReal))
      * k2_pay1 (k2_pay9 x w) (ix2 0 0) + k2_pay8 x w (row64 b) (ix2 0 j)
      = Quant.conv A (mat64 x w) (fun j => b (ix1 j)) R j := by
  have hh := Quant.high_total hr
  have hl := Quant.low_total hr
  rw [Mat.product p (k2_pay6 x w) (constantI S400x64 32 0#32) (fun _ => rfl) i j (by simpa only [hp, high64_apply] using hh),
    Mat.product p (k2_pay7 x w) (constantI S400x64 32 0#32) (fun _ => rfl) i j (by simpa only [hp, low64_apply] using hl), step64_apply, vec64_apply]
  simp only [hp, high64_apply, low64_apply]
  exact Quant.layer_eq A (mat64 x w) (fun j => b (ix1 j)) R j

end Cert.KernelIdeal.ByHand
end
-- ==== Proof.Stage.lean ====
/-
  The reference's operations in named stages, the arrays they start from left arbitrary: the product of a layer's
  activations and weights, its scale and codes, the adjacency's codes, the layer, the totals of the precondition. The whole
  reference and the precondition are compositions of these, by definition.
-/
module

public import proofs.«01_k».proof.Proof.Mat
public import proofs.«01_k».proof.Proof.Gen.ReferenceIdeal.Run
public import proofs.«01_k».proof.Pre_sums_in_range

@[expose] public section

set_option maxRecDepth 16384

noncomputable section

namespace Cert.Stage

open Cert.ReferenceIdeal Cert.ReferenceIdeal.Gen Idealize.ShloMosaic Idealize.ShloMosaic.Tactic

/-! ### The adjacency -/

/-- One number at every place of an array. -/
abbrev num (b : BitVec 32) : FVec Ideal S_ .f32 := constant S_ .f32 b

/-- The adjacency's codes. -/
def codesA (A : FVec Ideal S10000x10000 .f32) : FVec Ideal S10000x10000 .f32 :=
  minimumf (broadcastInDim S10000x10000 ![] bcast_S_S10000x10000 (num 0x42FE0000#32))
    (maximumf (broadcastInDim S10000x10000 ![] bcast_S_S10000x10000 (num 0xC3000000#32))
      (Host.roundeven (subf (mulf A (broadcastInDim S10000x10000 ![] bcast_S_S10000x10000 (num 0x437F0000#32)))
        (broadcastInDim S10000x10000 ![] bcast_S_S10000x10000 (num 0x43000000#32)))))

theorem mul_apply (X Y : FVec Ideal S_ .f32) (i : S_.Idx) : mulf X Y i = X i * Y i := rfl

theorem codesA_apply (A : FVec Ideal S10000x10000 .f32) (i k : Fin 10000) :
    codesA A (ix2 i k) = Quant.clipped (A (ix2 i k)) := by
  pointwise [codesA, num, Quant.clipped, Quant.level, Quant.lit]

/-! ### A layer of 128 columns -/

/-- The product of activations and weights. -/
def prod128 (x : FVec Ideal S10000x128 .f32) (w : FVec Ideal S128x128 .f32) : FVec Ideal S10000x128 .f32 :=
  Host.dotGeneral dot_S10000x128_S128x128_S10000x128_1_0_0_1_n_n none x w

/-- The scale of a product's codes. -/
def scale128 (M : FVec Ideal S10000x128 .f32) : FVec Ideal S_ .f32 :=
  mulf (Host.reduce FloatOps.maximumf (Host.absf M) (num 0xFF800000#32) reducesTo_S10000x128_S_d0_1 h_S_) (num 0x3803126F#32)

/-- A product's codes at a scale. -/
def codes128 (M : FVec Ideal S10000x128 .f32) (s : FVec Ideal S_ .f32) : FVec Ideal S10000x128 .f32 :=
  Host.roundeven (mulf M (broadcastInDim S10000x128 ![] bcast_S_S10000x128 (Host.divf (num 0x3F800000#32) s)))

/-- The dequantised product with the adjacency. -/
def agg128 (Q : FVec Ideal S10000x10000 .f32) (K : FVec Ideal S10000x128 .f32) (s : FVec Ideal S_ .f32) :
    FVec Ideal S10000x128 .f32 :=
  Host.dotGeneral dot_S10000x10000_S10000x128_S10000x128_1_0_0_1_n_n none
    (Host.divf Q (broadcastInDim S10000x10000 ![] bcast_S_S10000x10000 (num 0x437F0000#32)))
    (mulf K (broadcastInDim S10000x128 ![] bcast_S_S10000x128 s))

/-- The share of the offset, and the bias, added to it. -/
def shift128 (P M : FVec Ideal S10000x128 .f32) (b : FVec Ideal S128 .f32) : FVec Ideal S10000x128 .f32 :=
  addf (addf P (broadcastInDim S10000x128 ![0, 1] bcast_S1x128_S10000x128_0_1 (broadcastInDim S1x128 ![1] bcast_S128_S1x128_1
      (mulf (broadcastInDim S128 ![] bcast_S_S128 (num 0x3F008081#32))
        (Host.reduceAdd M (num 0x00000000#32) reducesTo_S10000x128_S128_d0 h_S_)))))
    (broadcastInDim S10000x128 ![0, 1] bcast_S1x128_S10000x128_0_1 (broadcastInDim S1x128 ![1] bcast_S128_S1x128_1 b))

/-- The layer before its activation. -/
def conv128 (A : FVec Ideal S10000x10000 .f32) (M : FVec Ideal S10000x128 .f32) (b : FVec Ideal S128 .f32) :
    FVec Ideal S10000x128 .f32 :=
  shift128 (agg128 (codesA A) (codes128 M (scale128 M)) (scale128 M)) M b

/-- The codes' high parts, low parts, and the total of one part's products with the adjacency's codes. -/
def upper128 (K : FVec Ideal S10000x128 .f32) : FVec Ideal S10000x128 .f32 :=
  Host.floor (mulf (addf K (broadcastInDim S10000x128 ![] bcast_S_S10000x128 (num 0x43000000#32)))
    (broadcastInDim S10000x128 ![] bcast_S_S10000x128 (num 0x3B800000#32)))
def lower128 (K : FVec Ideal S10000x128 .f32) : FVec Ideal S10000x128 .f32 :=
  subf K (mulf (upper128 K) (broadcastInDim S10000x128 ![] bcast_S_S10000x128 (num 0x43800000#32)))
def total128 (Q : FVec Ideal S10000x10000 .f32) (U : FVec Ideal S10000x128 .f32) : FVec Ideal S10000x128 .f32 :=
  Host.dotGeneral dot_S10000x10000_S10000x128_S10000x128_1_0_0_1_n_n none (Host.absf Q) (Host.absf U)
def within128 (T : FVec Ideal S10000x128 .f32) : IVec S10000x128 1 :=
  cmpf .ole T (broadcastInDim S10000x128 ![] bcast_S_S10000x128 (num 0x4C800000#32))

theorem prod128_apply (x : FVec Ideal S10000x128 .f32) (w : FVec Ideal S128x128 .f32) (i : Fin 10000) (j : Fin 128) :
    prod128 x w (ix2 i j) = ∑ k : Fin 128, x (ix2 i k) * w (ix2 k j) := by
  pointwise [prod128]

theorem scale128_apply (M : FVec Ideal S10000x128 .f32) (i : S_.Idx) :
    scale128 M i = Quant.scale fun r (j : Fin 128) => M (ix2 r j) := by
  rw [scale128, mul_apply, Mat.host]
  rfl

theorem codes128_apply (M : FVec Ideal S10000x128 .f32) (s : FVec Ideal S_ .f32) (v : EReal) (hs : ∀ i, s i = v) (i : Fin 10000)
    (j : Fin 128) : codes128 M s (ix2 i j) = Quant.code (M (ix2 i j)) v := by
  pointwise [codes128, num, Quant.code, hs]

theorem agg128_apply (Q : FVec Ideal S10000x10000 .f32) (K : FVec Ideal S10000x128 .f32) (s : FVec Ideal S_ .f32) (v : EReal)
    (hs : ∀ i, s i = v) (i : Fin 10000) (j : Fin 128) :
    agg128 Q K s (ix2 i j) = ∑ k : Fin 10000, Ideal.div (Q (ix2 i k)) (Quant.lit 0x437F0000#32) * (K (ix2 k j) * v) := by
  pointwise [agg128, num, Quant.lit, hs]

theorem shift128_apply (P M : FVec Ideal S10000x128 .f32) (b : FVec Ideal S128 .f32) (i : Fin 10000) (j : Fin 128) :
    shift128 P M b (ix2 i j) = P (ix2 i j) + Quant.lit 0x3F008081#32 * (∑ r : Fin 10000, M (ix2 r j)) + b (ix1 j) := by
  pointwise [shift128, num, Quant.lit]

theorem conv128_apply (A : FVec Ideal S10000x10000 .f32) (M : FVec Ideal S10000x128 .f32) (b : FVec Ideal S128 .f32)
    (i : Fin 10000) (j : Fin 128) :
    conv128 A M b (ix2 i j)
      = Quant.conv (fun i k => A (ix2 i k)) (fun r (j : Fin 128) => M (ix2 r j)) (fun j => b (ix1 j)) i j := by
  rw [conv128, shift128_apply, agg128_apply _ _ _ _ (scale128_apply M), Quant.conv]
  simp only [codesA_apply, codes128_apply M _ _ (scale128_apply M)]

theorem upper128_apply (K : FVec Ideal S10000x128 .f32) (i : Fin 10000) (j : Fin 128) :
    upper128 K (ix2 i j)
      = Ideal.liftRound Int.floor ((K (ix2 i j) + Quant.lit 0x43000000#32) * Quant.lit 0x3B800000#32) := by
  pointwise [upper128, num, Quant.lit]

theorem lower128_apply (K : FVec Ideal S10000x128 .f32) (i : Fin 10000) (j : Fin 128) :
    lower128 K (ix2 i j) = K (ix2 i j) - upper128 K (ix2 i j) * Quant.lit 0x43800000#32 := by
  pointwise [lower128, num, Quant.lit]

theorem total128_apply (Q : FVec Ideal S10000x10000 .f32) (U : FVec Ideal S10000x128 .f32) (i : Fin 10000) (j : Fin 128) :
    total128 Q U (ix2 i j)
      = ∑ k : Fin 10000, max (Q (ix2 i k)) (-Q (ix2 i k)) * max (U (ix2 k j)) (-U (ix2 k j)) := by
  pointwise [total128, Ideal.absf_def]

theorem within128_apply (T : FVec Ideal S10000x128 .f32) (h : within128 T = fun _ => 1#1) (i : Fin 10000) (j : Fin 128) :
    T (ix2 i j) ≤ Quant.lit 0x4C800000#32 := by
  have h' := congrFun h (ix2 i j)
  have e : within128 T (ix2 i j) = BitVec.ofBool (decide (T (ix2 i j) ≤ Quant.lit 0x4C800000#32)) := by
    pointwise [within128, num, Quant.lit]
  rw [e] at h'
  by_contra hn
  rw [decide_eq_false hn] at h'
  exact absurd h' (by decide)

/-- The totals within the bound, at an element. -/
theorem inRange128 (A : FVec Ideal S10000x10000 .f32) (M : FVec Ideal S10000x128 .f32)
    (hu : within128 (total128 (codesA A) (upper128 (codes128 M (scale128 M)))) = fun _ => 1#1)
    (hl : within128 (total128 (codesA A) (lower128 (codes128 M (scale128 M)))) = fun _ => 1#1) (i : Fin 10000) (j : Fin 128) :
    Quant.InRange (fun i k => A (ix2 i k)) (fun r (j : Fin 128) => M (ix2 r j)) i j := by
  have h1 := within128_apply _ hu i j
  have h2 := within128_apply _ hl i j
  rw [total128_apply] at h1 h2
  simp only [codesA_apply, lower128_apply, upper128_apply, codes128_apply M _ _ (scale128_apply M)] at h1 h2
  exact ⟨h1, h2⟩

/-! ### A layer of 64 columns -/

/-- The product of activations and weights. -/
def prod64 (x : FVec Ideal S10000x128 .f32) (w : FVec Ideal S128x64 .f32) : FVec Ideal S10000x64 .f32 :=
  Host.dotGeneral dot_S10000x128_S128x64_S10000x64_1_0_0_1_n_n none x w

/-- The scale of a product's codes. -/
def scale64 (M : FVec Ideal S10000x64 .f32) : FVec Ideal S_ .f32 :=
  mulf (Host.reduce FloatOps.maximumf (Host.absf M) (num 0xFF800000#32) reducesTo_S10000x64_S_d0_1 h_S_) (num 0x3803126F#32)

/-- A product's codes at a scale. -/
def codes64 (M : FVec Ideal S10000x64 .f32) (s : FVec Ideal S_ .f32) : FVec Ideal S10000x64 .f32 :=
  Host.roundeven (mulf M (broadcastInDim S10000x64 ![] bcast_S_S10000x64 (Host.divf (num 0x3F800000#32) s)))

/-- The dequantised product with the adjacency. -/
def agg64 (Q : FVec Ideal S10000x10000 .f32) (K : FVec Ideal S10000x64 .f32) (s : FVec Ideal S_ .f32) :
    FVec Ideal S10000x64 .f32 :=
  Host.dotGeneral dot_S10000x10000_S10000x64_S10000x64_1_0_0_1_n_n none
    (Host.divf Q (broadcastInDim S10000x10000 ![] bcast_S_S10000x10000 (num 0x437F0000#32)))
    (mulf K (broadcastInDim S10000x64 ![] bcast_S_S10000x64 s))

/-- The share of the offset, and the bias, added to it. -/
def shift64 (P M : FVec Ideal S10000x64 .f32) (b : FVec Ideal S64 .f32) : FVec Ideal S10000x64 .f32 :=
  addf (addf P (broadcastInDim S10000x64 ![0, 1] bcast_S1x64_S10000x64_0_1 (broadcastInDim S1x64 ![1] bcast_S64_S1x64_1
      (mulf (broadcastInDim S64 ![] bcast_S_S64 (num 0x3F008081#32))
        (Host.reduceAdd M (num 0x00000000#32) reducesTo_S10000x64_S64_d0 h_S_)))))
    (broadcastInDim S10000x64 ![0, 1] bcast_S1x64_S10000x64_0_1 (broadcastInDim S1x64 ![1] bcast_S64_S1x64_1 b))

/-- The layer before its activation. -/
def conv64 (A : FVec Ideal S10000x10000 .f32) (M : FVec Ideal S10000x64 .f32) (b : FVec Ideal S64 .f32) :
    FVec Ideal S10000x64 .f32 :=
  shift64 (agg64 (codesA A) (codes64 M (scale64 M)) (scale64 M)) M b

/-- The codes' high parts, low parts, and the total of one part's products with the adjacency's codes. -/
def upper64 (K : FVec Ideal S10000x64 .f32) : FVec Ideal S10000x64 .f32 :=
  Host.floor (mulf (addf K (broadcastInDim S10000x64 ![] bcast_S_S10000x64 (num 0x43000000#32)))
    (broadcastInDim S10000x64 ![] bcast_S_S10000x64 (num 0x3B800000#32)))
def lower64 (K : FVec Ideal S10000x64 .f32) : FVec Ideal S10000x64 .f32 :=
  subf K (mulf (upper64 K) (broadcastInDim S10000x64 ![] bcast_S_S10000x64 (num 0x43800000#32)))
def total64 (Q : FVec Ideal S10000x10000 .f32) (U : FVec Ideal S10000x64 .f32) : FVec Ideal S10000x64 .f32 :=
  Host.dotGeneral dot_S10000x10000_S10000x64_S10000x64_1_0_0_1_n_n none (Host.absf Q) (Host.absf U)
def within64 (T : FVec Ideal S10000x64 .f32) : IVec S10000x64 1 :=
  cmpf .ole T (broadcastInDim S10000x64 ![] bcast_S_S10000x64 (num 0x4C800000#32))

theorem prod64_apply (x : FVec Ideal S10000x128 .f32) (w : FVec Ideal S128x64 .f32) (i : Fin 10000) (j : Fin 64) :
    prod64 x w (ix2 i j) = ∑ k : Fin 128, x (ix2 i k) * w (ix2 k j) := by
  pointwise [prod64]

theorem scale64_apply (M : FVec Ideal S10000x64 .f32) (i : S_.Idx) :
    scale64 M i = Quant.scale fun r (j : Fin 64) => M (ix2 r j) := by
  rw [scale64, mul_apply, Mat.host]
  rfl

theorem codes64_apply (M : FVec Ideal S10000x64 .f32) (s : FVec Ideal S_ .f32) (v : EReal) (hs : ∀ i, s i = v) (i : Fin 10000)
    (j : Fin 64) : codes64 M s (ix2 i j) = Quant.code (M (ix2 i j)) v := by
  pointwise [codes64, num, Quant.code, hs]

theorem agg64_apply (Q : FVec Ideal S10000x10000 .f32) (K : FVec Ideal S10000x64 .f32) (s : FVec Ideal S_ .f32) (v : EReal)
    (hs : ∀ i, s i = v) (i : Fin 10000) (j : Fin 64) :
    agg64 Q K s (ix2 i j) = ∑ k : Fin 10000, Ideal.div (Q (ix2 i k)) (Quant.lit 0x437F0000#32) * (K (ix2 k j) * v) := by
  pointwise [agg64, num, Quant.lit, hs]

theorem shift64_apply (P M : FVec Ideal S10000x64 .f32) (b : FVec Ideal S64 .f32) (i : Fin 10000) (j : Fin 64) :
    shift64 P M b (ix2 i j) = P (ix2 i j) + Quant.lit 0x3F008081#32 * (∑ r : Fin 10000, M (ix2 r j)) + b (ix1 j) := by
  pointwise [shift64, num, Quant.lit]

theorem conv64_apply (A : FVec Ideal S10000x10000 .f32) (M : FVec Ideal S10000x64 .f32) (b : FVec Ideal S64 .f32)
    (i : Fin 10000) (j : Fin 64) :
    conv64 A M b (ix2 i j)
      = Quant.conv (fun i k => A (ix2 i k)) (fun r (j : Fin 64) => M (ix2 r j)) (fun j => b (ix1 j)) i j := by
  rw [conv64, shift64_apply, agg64_apply _ _ _ _ (scale64_apply M), Quant.conv]
  simp only [codesA_apply, codes64_apply M _ _ (scale64_apply M)]

theorem upper64_apply (K : FVec Ideal S10000x64 .f32) (i : Fin 10000) (j : Fin 64) :
    upper64 K (ix2 i j)
      = Ideal.liftRound Int.floor ((K (ix2 i j) + Quant.lit 0x43000000#32) * Quant.lit 0x3B800000#32) := by
  pointwise [upper64, num, Quant.lit]

theorem lower64_apply (K : FVec Ideal S10000x64 .f32) (i : Fin 10000) (j : Fin 64) :
    lower64 K (ix2 i j) = K (ix2 i j) - upper64 K (ix2 i j) * Quant.lit 0x43800000#32 := by
  pointwise [lower64, num, Quant.lit]

theorem total64_apply (Q : FVec Ideal S10000x10000 .f32) (U : FVec Ideal S10000x64 .f32) (i : Fin 10000) (j : Fin 64) :
    total64 Q U (ix2 i j)
      = ∑ k : Fin 10000, max (Q (ix2 i k)) (-Q (ix2 i k)) * max (U (ix2 k j)) (-U (ix2 k j)) := by
  pointwise [total64, Ideal.absf_def]

theorem within64_apply (T : FVec Ideal S10000x64 .f32) (h : within64 T = fun _ => 1#1) (i : Fin 10000) (j : Fin 64) :
    T (ix2 i j) ≤ Quant.lit 0x4C800000#32 := by
  have h' := congrFun h (ix2 i j)
  have e : within64 T (ix2 i j) = BitVec.ofBool (decide (T (ix2 i j) ≤ Quant.lit 0x4C800000#32)) := by
    pointwise [within64, num, Quant.lit]
  rw [e] at h'
  by_contra hn
  rw [decide_eq_false hn] at h'
  exact absurd h' (by decide)

/-- The totals within the bound, at an element. -/
theorem inRange64 (A : FVec Ideal S10000x10000 .f32) (M : FVec Ideal S10000x64 .f32)
    (hu : within64 (total64 (codesA A) (upper64 (codes64 M (scale64 M)))) = fun _ => 1#1)
    (hl : within64 (total64 (codesA A) (lower64 (codes64 M (scale64 M)))) = fun _ => 1#1) (i : Fin 10000) (j : Fin 64) :
    Quant.InRange (fun i k => A (ix2 i k)) (fun r (j : Fin 64) => M (ix2 r j)) i j := by
  have h1 := within64_apply _ hu i j
  have h2 := within64_apply _ hl i j
  rw [total64_apply] at h1 h2
  simp only [codesA_apply, lower64_apply, upper64_apply, codes64_apply M _ _ (scale64_apply M)] at h1 h2
  exact ⟨h1, h2⟩

/-! ### The whole reference -/

/-- The activation between the layers. -/
def relu (H : FVec Ideal S10000x128 .f32) : FVec Ideal S10000x128 .f32 :=
  maximumf H (broadcastInDim S10000x128 ![] bcast_S_S10000x128 (num 0x00000000#32))

theorem relu_apply (H : FVec Ideal S10000x128 .f32) (i : Fin 10000) (j : Fin 128) :
    relu H (ix2 i j) = max (H (ix2 i j)) 0 := by
  pointwise [relu, num]

/-- The first layer. -/
def hidden (x : FVec Ideal S10000x128 .f32) (A : FVec Ideal S10000x10000 .f32) (w : FVec Ideal S128x128 .f32)
    (b : FVec Ideal S128 .f32) : FVec Ideal S10000x128 .f32 := relu (conv128 A (prod128 x w) b)

theorem reference (m : (ℓ : Loc nD τ sig) → Buf (Elt Ideal) ℓ) (c : Dev nD) :
    Value.res_out0 m c
      = conv64 (m ((c.tc : Thread nD τ).loc main_arg1))
          (prod64 (hidden (m ((c.tc : Thread nD τ).loc main_arg0)) (m ((c.tc : Thread nD τ).loc main_arg1))
            (m ((c.tc : Thread nD τ).loc main_arg2)) (m ((c.tc : Thread nD τ).loc main_arg3)))
            (m ((c.tc : Thread nD τ).loc main_arg4)))
          (m ((c.tc : Thread nD τ).loc main_arg5)) := by
  unfold Value.res_out0 Value.res_main_v56
  rfl

/-! ### The precondition -/

/-- The side conditions the precondition's operations state. -/
instance preFacts : Cert.Pre_sums_in_range.Facts where
  reducesTo_S10000x128_S_d0_1 := reducesTo_S10000x128_S_d0_1
  h_S_ := h_S_
  bcast_S_S10000x128 := bcast_S_S10000x128
  bcast_S_S10000x10000 := bcast_S_S10000x10000
  reducesTo_S10000x128_S128_d0 := reducesTo_S10000x128_S128_d0
  bcast_S_S128 := bcast_S_S128
  bcast_S128_S1x128_1 := bcast_S128_S1x128_1
  bcast_S1x128_S10000x128_0_1 := bcast_S1x128_S10000x128_0_1
  reducesTo_S10000x64_S_d0_1 := reducesTo_S10000x64_S_d0_1
  bcast_S_S10000x64 := bcast_S_S10000x64
  dot_S10000x128_S128x128_S10000x128_1_0_0_1_n_n_wf := dot_S10000x128_S128x128_S10000x128_1_0_0_1_n_n_wf
  dot_S10000x10000_S10000x128_S10000x128_1_0_0_1_n_n_wf := dot_S10000x10000_S10000x128_S10000x128_1_0_0_1_n_n_wf
  dot_S10000x128_S128x64_S10000x64_1_0_0_1_n_n_wf := dot_S10000x128_S128x64_S10000x64_1_0_0_1_n_n_wf
  dot_S10000x10000_S10000x64_S10000x64_1_0_0_1_n_n_wf := dot_S10000x10000_S10000x64_S10000x64_1_0_0_1_n_n_wf

theorem precondition (x : FVec Ideal S10000x128 .f32) (A : FVec Ideal S10000x10000 .f32) (w1 : FVec Ideal S128x128 .f32)
    (b1 : FVec Ideal S128 .f32) (w2 : FVec Ideal S128x64 .f32) (b2 : FVec Ideal S64 .f32) :
    Cert.Pre_sums_in_range.fn x A w1 b1 w2 b2
      = (within128 (total128 (codesA A) (upper128 (codes128 (prod128 x w1) (scale128 (prod128 x w1))))),
         within128 (total128 (codesA A) (lower128 (codes128 (prod128 x w1) (scale128 (prod128 x w1))))),
         within64 (total64 (codesA A) (upper64 (codes64 (prod64 (hidden x A w1 b1) w2) (scale64 (prod64 (hidden x A w1 b1) w2))))),
         within64 (total64 (codesA A) (lower64 (codes64 (prod64 (hidden x A w1 b1) w2) (scale64 (prod64 (hidden x A w1 b1) w2)))))) := by
  rfl

end Cert.Stage
end
-- ==== Proof.Values.lean ====
/-
  The kernel's layers, block of rows by block of rows, are the reference's layers at those rows.
-/
module

public import proofs.«01_k».proof.Proof.Layers
public import proofs.«01_k».proof.Proof.Stage

@[expose] public section

set_option maxRecDepth 16384

noncomputable section

namespace Cert.KernelIdeal.ByHand

open Cert.KernelIdeal Cert.KernelIdeal.Gen
open Idealize.ShloMosaic Idealize.ShloMosaic.TcCoe Idealize.ShloMosaic.Tactic

/-- The row of the whole that row `i` of block `t` is. -/
abbrev row (t : Fin 25) (i : Fin 400) : Fin 10000 := ⟨400 * t.val + i.val, by have := t.isLt; have := i.isLt; omega⟩

theorem split128 (y : S400x128.Idx) : y = ix2 (y 0) (y 1) := by
  funext a; fin_cases a <;> rfl

theorem split64 (y : S400x64.Idx) : y = ix2 (y 0) (y 1) := by
  funext a; fin_cases a <;> rfl

theorem mat128_eq (x : Vec Ideal S10000x128 .f32) (w : Vec Ideal S128x128 .f32) :
    mat128 x w = fun r (j : Fin 128) => Cert.Stage.prod128 x w (ix2 r j) := by
  funext r j
  exact (prod128_apply x w r j).trans (Cert.Stage.prod128_apply x w r j).symm

theorem mat64_eq (x : Vec Ideal S10000x128 .f32) (w : Vec Ideal S128x64 .f32) :
    mat64 x w = fun r (j : Fin 64) => Cert.Stage.prod64 x w (ix2 r j) := by
  funext r j
  exact (prod64_apply x w r j).trans (Cert.Stage.prod64_apply x w r j).symm

/-- The adjacency's bytes, all 25 blocks of them. -/
def bytes (A : Vec Ideal S10000x10000 .f32) : Vec Ideal S25x400x10000 .i8 :=
  fun z => Quant.byte (A (ix2 (row (z 0) (z 1)) (z 2)))

theorem bytes_eq (A : Vec Ideal S10000x10000 .f32) (t : Fin 25) (y : S1x400x10000.Idx) :
    k1_pay2 (rows A t) y = bytes A (ix3 t (y 1) (y 2)) := by
  idx_vars y
  rw [slab_apply, byte_apply]
  rfl

theorem hidden_eq (x : Vec Ideal S10000x128 .f32) (A : Vec Ideal S10000x10000 .f32) (w : Vec Ideal S128x128 .f32)
    (b : Vec Ideal S128 .f32)
    (hr : ∀ i (j : Fin 128), Quant.InRange (fun i k => A (ix2 i k)) (fun r (j : Fin 128) => Cert.Stage.prod128 x w (ix2 r j)) i j)
    (t : Fin 25) (i : Fin 400) (j : Fin 128) :
    layer1 x w b A t (ix2 i j) = Cert.Stage.hidden x A w b (ix2 (row t i) j) := by
  unfold layer1 Cert.Stage.hidden
  rw [block128_apply, Cert.Stage.relu_apply, Cert.Stage.conv128_apply, ← mat128_eq]
  rw [← mat128_eq] at hr
  exact congrArg (max · 0) (rows128_eq x w b (fun i k => A (ix2 i k)) (k1_pay1 (rows A t)) (row t i) i j
    (fun k => byte_apply (rows A t) i k) (hr _ _))

theorem out_eq (h : Vec Ideal S10000x128 .f32) (A : Vec Ideal S10000x10000 .f32) (w : Vec Ideal S128x64 .f32)
    (b : Vec Ideal S64 .f32)
    (hr : ∀ i (j : Fin 64), Quant.InRange (fun i k => A (ix2 i k)) (fun r (j : Fin 64) => Cert.Stage.prod64 h w (ix2 r j)) i j)
    (t : Fin 25) (i : Fin 400) (j : Fin 64) :
    layer2 h w b (bytes A) t (ix2 i j)
      = Cert.Stage.conv64 A (Cert.Stage.prod64 h w) b (ix2 (row t i) j) := by
  unfold layer2
  rw [block64_apply, Cert.Stage.conv64_apply, ← mat64_eq]
  rw [← mat64_eq] at hr
  exact rows64_eq h w b (fun i k => A (ix2 i k)) _ (row t i) i j
    (fun k => ValueIdx.shapeCast_1ab_ab_apply _ _ _ _) (hr _ _)

end Cert.KernelIdeal.ByHand
end
-- ==== Proof.lean ====
/-
  The proof of `Cert.Claim`: the frames of the three programs, and that the idealized kernel's output is the reference's on
  every memory where the totals of the integer products stay in range.

  The kernel's run (`Proof/Run.lean`) leaves the output at a chain of what its four calls store (`Proof/Chain.lean`); read at
  an element (`Proof/Layers.lean`, `Proof/Values.lean`) it is the reference's two layers (`Proof/Stage.lean`), by the
  arithmetic of one layer (`Proof/Quant.lean`).
-/
module

public import proofs.«01_k».proof.Defs
public import proofs.«01_k».proof.Proof.Gen.ReferenceIdeal.Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Run
public import proofs.«01_k».proof.Proof.Values
public import Idealize.ShloMosaic.Lib.Quiescent

@[expose] public section

set_option maxRecDepth 16384

noncomputable section

namespace Cert.Proof

open Idealize.ShloMosaic Idealize.SL.Sem

local instance preconditionFacts : Cert.Pre_sums_in_range.Facts := Cert.Stage.preFacts

/-- The reference runs to its end with its arguments unchanged; it declares no counter. -/
theorem frame_reference : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

theorem frame_kernelIdeal : Cert.quiescent_KernelIdeal := fun m g _ => Cert.KernelIdeal.Gen.frame m g

/-- In range: the idealized kernel's output is the reference's two layers of its arguments. -/
theorem value (m : (ℓ : Loc Cert.KernelIdeal.nD Cert.KernelIdeal.τ Cert.KernelIdeal.sig) → Buf (Elt Ideal) ℓ)
    (g : Dev Cert.KernelIdeal.nD → PrngReg) (hpre : Cert.Pre_KernelIdeal_sums_in_range m) (c : Dev Cert.KernelIdeal.nD) :
    Cert.KernelIdeal.Gen.W6 m g c (Proc.devRef .tc Cert.KernelIdeal.main_v5)
      = Cert.Stage.conv64 (m ((c.tc : Thread Cert.KernelIdeal.nD Cert.KernelIdeal.τ).loc Cert.KernelIdeal.main_arg1))
          (Cert.Stage.prod64
            (Cert.Stage.hidden (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3)))
            (m ((c.tc : Thread Cert.KernelIdeal.nD Cert.KernelIdeal.τ).loc Cert.KernelIdeal.main_arg4)))
          (m ((c.tc : Thread Cert.KernelIdeal.nD Cert.KernelIdeal.τ).loc Cert.KernelIdeal.main_arg5)) := by
  obtain ⟨h1, h2, h3, h4⟩ := hpre c
  rw [Cert.Stage.precondition] at h1 h2 h3 h4
  have r1 := Cert.Stage.inRange128 _ _ h1 h2
  have r2 := Cert.Stage.inRange64 _ _ h3 h4
  refine Cert.KernelIdeal.ByHand.result m g c
    (Cert.KernelIdeal.ByHand.bytes (m ((c.tc : Thread Cert.KernelIdeal.nD Cert.KernelIdeal.τ).loc Cert.KernelIdeal.main_arg1)))
    (Cert.Stage.hidden (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))) _
    (fun t y => Cert.KernelIdeal.ByHand.bytes_eq _ t y) (fun t y => ?_) (fun t y => ?_)
  · exact (congrArg _ (Cert.KernelIdeal.ByHand.split128 y)).trans (Cert.KernelIdeal.ByHand.hidden_eq _ _ _ _ r1 t (y 0) (y 1))
  · exact (congrArg _ (Cert.KernelIdeal.ByHand.split64 y)).trans (Cert.KernelIdeal.ByHand.out_eq _ _ _ _ r2 t (y 0) (y 1))

theorem algebraic : Cert.algebraic_KernelIdeal_ReferenceIdeal_pre_sums_in_range := by
  intro m g m' g' hpre hagree
  refine ⟨fun c => Cert.KernelIdeal.Gen.W6 m g c (Proc.devRef .tc Cert.KernelIdeal.main_v5), Cert.KernelIdeal.ByHand.run m g,
    (θ_run Cert.ReferenceIdeal.defs _ _).mono (fun r h c => ⟨(h c).1.trans ?_, (h c).2⟩) (Cert.ReferenceIdeal.Value.run m' g')⟩
  obtain ⟨e0, e1, e2, e3, e4, e5⟩ := hagree c
  refine (Cert.Stage.reference m' c).trans (Eq.trans ?_ (value m g hpre c).symm)
  rw [e0, e1, e2, e3, e4, e5]

theorem claim : Cert.Claim :=
  ⟨Cert.Kernel.Gen.facts, Cert.KernelIdeal.Gen.facts, Cert.ReferenceIdeal.Gen.facts, Cert.Stage.preFacts,
    fun m g _ => Cert.Kernel.Gen.frame m g, frame_kernelIdeal, fun m g _ => frame_kernelIdeal m g trivial,
    frame_reference, fun m g _ => frame_reference m g trivial, trivial, algebraic⟩

end Cert.Proof

end
